-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x32 .f32) (main_arg3 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000000#32
  let main_v8 : IVec S16384 32 := broadcastInDim S16384 ![] bcast_S_S16384 main_c_2
  let main_v9 : IVec S16384 1 := cmpi .slt main_arg1 main_v8
  let main_v10 : IVec S16384 1 := andi main_v7 main_v9
  let main_c_3 : IVec S_ 1 := constantI S_ 1 1#1
  let main_v11 : IVec S_ 1 := (fun x v => Host.reduce IntOp.andi x v reducesTo_S16384_S_d0 h_S_) main_v10 main_c_3
  main_v11
-- ==== Kernel.lean ====
abbrev S16384 : Shape := ⟨1, ![16384]⟩
abbrev S1000000x32 : Shape := ⟨2, ![1000000, 32]⟩
abbrev S32x1000000 : Shape := ⟨2, ![32, 1000000]⟩
abbrev S4x8x1000000 : Shape := ⟨3, ![4, 8, 1000000]⟩
abbrev S528 : Shape := ⟨1, ![528]⟩
abbrev S4x8x2048 : Shape := ⟨3, ![4, 8, 2048]⟩
abbrev S512 : Shape := ⟨1, ![512]⟩
abbrev S_ : Shape := ⟨0, ![]⟩
abbrev S16 : Shape := ⟨1, ![16]⟩
abbrev S1 : Shape := ⟨1, ![1]⟩
abbrev S4x8x16 : Shape := ⟨3, ![4, 8, 16]⟩

abbrev nBuf : Table → Nat
  | .hbm => 9
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S32x1000000, .f32⟩
  | .hbm, ⟨5, _⟩ => ⟨S4x8x1000000, .f32⟩
  | .hbm, ⟨6, _⟩ => ⟨S32x1000000, .f32⟩
  | .hbm, ⟨7, _⟩ => ⟨S4x8x1000000, .f32⟩
  | .hbm, ⟨8, _⟩ => ⟨S16384, .f32⟩
  | .local .scVector .vmem, ⟨0, _⟩ => ⟨S528, .i32⟩
  | .local .scVector .vmem, ⟨1, _⟩ => ⟨S528, .i32⟩
  | .local .scVector .vmem, ⟨2, _⟩ => ⟨S4x8x2048, .f32⟩
  | .local .scVector .vmem, ⟨3, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_arg1_scv : Ref sig .scVector := ⟨.hbm, 1, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v6 : BitVec 32 := Scalar.addi c0_i32_0 c32_i32
  let c1_i32 : BitVec 32 := 1#32
  ⟨c0_i32_0, v6, c1_i32⟩
@[reducible] def k0_t2_loop : Scf.Loop 32 :=
  let c0_i32_3 : BitVec 32 := 0#32
  let c16_i32_4 : BitVec 32 := 16#32
  let v8 : BitVec 32 := Scalar.addi c0_i32_3 c16_i32_4
  let c1_i32_5 : BitVec 32 := 1#32
  ⟨c0_i32_3, v8, c1_i32_5⟩
def k0_off2 (k0_t1 : Fin k0_t1_loop.trips) (k0_t2 : Fin k0_t2_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v7 : BitVec 32 := Scalar.muli arg12 c16_i32
  let c0_i32_3 : BitVec 32 := 0#32
  let c1_i32_5 : BitVec 32 := 1#32
  let arg13 : BitVec 32 := Scf.iv c0_i32_3 c1_i32_5 k0_t2
  let v196 : BitVec 32 := Scalar.addi v7 arg13
  let v197 : Index := Scalar.indexCast v196
  ![v197.toNat]
def k0_mult1 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  v205
def k0_mult2 (v200 : BitVec 32) : BitVec 32 :=
  let c_m128_i32 : BitVec 32 := 4294967168#32
  let v207 : BitVec 32 := Scalar.andi v200 c_m128_i32
  v207

def k0_off3 (k0_t2 : Fin k0_t2_loop.trips) : Fin 3 → Nat :=
  let c0_i32_73 : BitVec 32 := 0#32
  let c0_i32_74 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off4 (v200 : BitVec 32) : Fin 3 → Nat :=
  let c0_i32_75 : BitVec 32 := 0#32
  let c0_i32_76 : BitVec 32 := 0#32
  let c_m128_i32 : BitVec 32 := 4294967168#32
  let v207 : BitVec 32 := Scalar.andi v200 c_m128_i32
  let v208 : BitVec 32 := v207
  let c112_i32 : BitVec 32 := 112#32
  let v243 : BitVec 32 := Scalar.addi v208 c112_i32
  ![0, 0, v243.toNat]
def k0_cond1 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c0_i32_53 : BitVec 32 := 0#32
  let v214 : BitVec 1 := Scalar.cmpi .ne v213 c0_i32_53
  v214

def k0_cond2 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c0_i32_62 : BitVec 32 := 0#32
  let v226 : BitVec 1 := Scalar.cmpi .ne v225 c0_i32_62
  v226

def k0_cond3 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c1_i32_63 : BitVec 32 := 1#32
  let v228 : BitVec 32 := Scalar.subi v225 c1_i32_63
  let c0_i32_64 : BitVec 32 := 0#32
  let v229 : BitVec 1 := Scalar.cmpi .ne v228 c0_i32_64
  v229

def k0_cond4 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c1_i32_63 : BitVec 32 := 1#32
  let v228 : BitVec 32 := Scalar.subi v225 c1_i32_63
  let c1_i32_65 : BitVec 32 := 1#32
  let v231 : BitVec 32 := Scalar.subi v228 c1_i32_65
  let c0_i32_66 : BitVec 32 := 0#32
  let v232 : BitVec 1 := Scalar.cmpi .ne v231 c0_i32_66
  v232

def k0_cond5 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c0_i32_68 : BitVec 32 := 0#32
  let v235 : BitVec 1 := Scalar.cmpi .ne v234 c0_i32_68
  v235

def k0_cond6 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c1_i32_69 : BitVec 32 := 1#32
  let v237 : BitVec 32 := Scalar.subi v234 c1_i32_69
  let c0_i32_70 : BitVec 32 := 0#32
  let v238 : BitVec 1 := Scalar.cmpi .ne v237 c0_i32_70
  v238

def k0_cond7 (v200 : BitVec 32) : BitVec 1 :=
  let c4_i32_48 : BitVec 32 := 4#32
  let v209 : BitVec 32 := Scalar.shrsi v200 c4_i32_48
  let c7_i32_49 : BitVec 32 := 7#32
  let v210 : BitVec 32 := Scalar.andi v209 c7_i32_49
  let c0_i32_51 : BitVec 32 := 0#32
  let v212 : BitVec 32 := Scalar.maxsi v210 c0_i32_51
  let c7_i32_52 : BitVec 32 := 7#32
  let v213 : BitVec 32 := Scalar.minsi v212 c7_i32_52
  let c1_i32_61 : BitVec 32 := 1#32
  let v225 : BitVec 32 := Scalar.subi v213 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c1_i32_69 : BitVec 32 := 1#32
  let v237 : BitVec 32 := Scalar.subi v234 c1_i32_69
  let c1_i32_71 : BitVec 32 := 1#32
  let v240 : BitVec 32 := Scalar.subi v237 c1_i32_71
  let c0_i32_72 : BitVec 32 := 0#32
  let v241 : BitVec 1 := Scalar.cmpi .ne v240 c0_i32_72
  v241

def k0_off5 (k0_t2 : Fin k0_t2_loop.trips) : Fin 3 → Nat :=
  let c0_i32_73 : BitVec 32 := 0#32
  let c0_i32_74 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off6 (v200 : BitVec 32) : Fin 3 → Nat :=
  let c0_i32_75 : BitVec 32 := 0#32
  let c0_i32_76 : BitVec 32 := 0#32
  let c_m128_i32 : BitVec 32 := 4294967168#32
  let v207 : BitVec 32 := Scalar.andi v200 c_m128_i32
  let v208 : BitVec 32 := v207
  let c96_i32 : BitVec 32 := 96#32
  let v243 : BitVec 32 := Scalar.addi v208 c96_i32
  ![0, 0, v243.toNat]
def k0_off7 (k0_t2 : Fin k0_t2_loop.trips) : Fin 3 → Nat :=
  let c0_i32_71 : BitVec 32 := 0#32
  let c0_i32_72 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off8 (v200 : BitVec 32) : Fin 3 → Nat :=
  let c0_i32_73 : BitVec 32 := 0#32
  let c0_i32_74 : BitVec 32 := 0#32
  let c_m128_i32 : BitVec 32 := 4294967168#32
  let v207 : BitVec 32 := Scalar.andi v200 c_m128_i32
  let v208 : BitVec 32 := v207
  let c80_i32 : BitVec 32 := 80#32
  let v240 : BitVec 32 := Scalar.addi v208 c80_i32
  ![0, 0, v240.toNat]
def k0_off9 (k0_t2 : Fin k0_t2_loop.trips) : Fin 3 → Nat :=
  let c0_i32_70 : BitVec 32 := 0#32
  let c0_i32_71 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off10 (v200 : BitVec 32) : Fin 3 → Nat :=
  let c0_i32_72 : BitVec 32 := 0#32
  let c0_i32_73 : BitVec 32 := 0#32
  let c_m128_i32 : BitVec 32 := 4294967168#32
  let v207 : BitVec 32 := Scalar.andi v200 c_m128_i32
  let v208 : BitVec 32 := v207
  let c64_i32_69 : BitVec 32 := 64#32
  let v237 : BitVec 32 := Scalar.addi v208 c64_i32_69
  ![0, 0, v237.toNat]
def k0_off11 (k0_t2 : Fin k0_t2_loop.trips) : Fin 3 → Nat :=
  let c0_i32_67 : BitVec 32 := 0#32
  let c0_i32_68 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off12 (v200 : BitVec 32) : Fin 3 → Nat :=
  let c0_i32_69 : BitVec 32 := 0#32
  let c0_i32_70 : BitVec 32 := 0#32
  let c_m128_i32 : BitVec 32 := 4294967168#32
  let v207 : BitVec 32 := Scalar.andi v200 c_m128_i32
  let v208 : BitVec 32 := v207
  let c48_i32 : BitVec 32 := 48#32
  let v234 : BitVec 32 := Scalar.addi v208 c48_i32
  ![0, 0, v234.toNat]
def k0_off13 (k0_t2 : Fin k0_t2_loop.trips) : Fin 3 → Nat :=
  let c0_i32_66 : BitVec 32 := 0#32
  let c0_i32_67 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off14 (v200 : BitVec 32) : Fin 3 → Nat :=
  let c0_i32_68 : BitVec 32 := 0#32
  let c0_i32_69 : BitVec 32 := 0#32
  let c_m128_i32 : BitVec 32 := 4294967168#32
  let v207 : BitVec 32 := Scalar.andi v200 c_m128_i32
  let v208 : BitVec 32 := v207
  let c32_i32_65 : BitVec 32 := 32#32
  let v231 : BitVec 32 := Scalar.addi v208 c32_i32_65
  ![0, 0, v231.toNat]
def k0_off15 (k0_t2 : Fin k0_t2_loop.trips) : Fin 3 → Nat :=
  let c0_i32_64 : BitVec 32 := 0#32
  let c0_i32_65 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off16 (v200 : BitVec 32) : Fin 3 → Nat :=
  let c0_i32_66 : BitVec 32 := 0#32
  let c0_i32_67 : BitVec 32 := 0#32
  let c_m128_i32 : BitVec 32 := 4294967168#32
  let v207 : BitVec 32 := Scalar.andi v200 c_m128_i32
  let v208 : BitVec 32 := v207
  let c16_i32_63 : BitVec 32 := 16#32
  let v228 : BitVec 32 := Scalar.addi v208 c16_i32_63
  ![0, 0, v228.toNat]
def k0_off17 (k0_t2 : Fin k0_t2_loop.trips) : Fin 3 → Nat :=
  let c0_i32_62 : BitVec 32 := 0#32
  let c0_i32_63 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c0_i32_50 : BitVec 32 := 0#32
  let v211 : BitVec 32 := Scalar.addi v206 c0_i32_50
  ![0, 0, v211.toNat]
def k0_off18 (v200 : BitVec 32) : Fin 3 → Nat :=
  let c0_i32_64 : BitVec 32 := 0#32
  let c0_i32_65 : BitVec 32 := 0#32
  let c_m128_i32 : BitVec 32 := 4294967168#32
  let v207 : BitVec 32 := Scalar.andi v200 c_m128_i32
  let v208 : BitVec 32 := v207
  let c0_i32_61 : BitVec 32 := 0#32
  let v225 : BitVec 32 := Scalar.addi v208 c0_i32_61
  ![0, 0, v225.toNat]

def k0_chk1 (v200 : BitVec 32) : Prop :=
  (128 ∣ (k0_mult2 v200).toNat) ∧
  (∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : k0_cond6 v200 = 1#1), ∀ (k0_h7 : k0_cond7 v200 = 1#1), ∀ a, (k0_off4 v200) a + S4x8x16.size a ≤ S4x8x1000000.size a) ∧
  (∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : k0_cond6 v200 = 1#1), ∀ (k0_h7 : ¬(k0_cond7 v200 = 1#1)), ∀ a, (k0_off6 v200) a + S4x8x16.size a ≤ S4x8x1000000.size a) ∧
  (∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : ¬(k0_cond6 v200 = 1#1)), ∀ a, (k0_off8 v200) a + S4x8x16.size a ≤ S4x8x1000000.size a) ∧
  (∀ (k0_h1 : k0_cond1 v200 = 1#1), ∀ (k0_h2 : k0_cond2 v200 = 1#1), ∀ (k0_h3 : k0_cond3 v200 = 1#1), ∀ (k0_h4 : k0_cond4 v200 = 1#1), ∀ (k0_h5 : ¬(k0_cond5 v200 = 1#1)), ∀ a, (k0_off10 v200) a + S4x8x16.size a ≤ S4x8x1000000.size a) ∧
  (∀ (k0_h1 : k0_cond1 v200 = 1#1), ∀ (k0_h2 : k0_cond2 v200 = 1#1), ∀ (k0_h3 : k0_cond3 v200 = 1#1), ∀ (k0_h4 : ¬(k0_cond4 v200 = 1#1)), ∀ a, (k0_off12 v200) a + S4x8x16.size a ≤ S4x8x1000000.size a) ∧
  (∀ (k0_h1 : k0_cond1 v200 = 1#1), ∀ (k0_h2 : k0_cond2 v200 = 1#1), ∀ (k0_h3 : ¬(k0_cond3 v200 = 1#1)), ∀ a, (k0_off14 v200) a + S4x8x16.size a ≤ S4x8x1000000.size a) ∧
  (∀ (k0_h1 : k0_cond1 v200 = 1#1), ∀ (k0_h2 : ¬(k0_cond2 v200 = 1#1)), ∀ a, (k0_off16 v200) a + S4x8x16.size a ≤ S4x8x1000000.size a) ∧
  (∀ (k0_h1 : ¬(k0_cond1 v200 = 1#1)), ∀ a, (k0_off18 v200) a + S4x8x16.size a ≤ S4x8x1000000.size a)
theorem k0_mult2_dvd : ∀ (v200 : BitVec 32) (k0_hw1 : k0_chk1 v200), 128 ∣ (k0_mult2 v200).toNat := fun v200 k0_hw1 => k0_hw1.1
theorem k0_off4_inb : ∀ (v200 : BitVec 32) (k0_hw1 : k0_chk1 v200), ∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : k0_cond6 v200 = 1#1), ∀ (k0_h7 : k0_cond7 v200 = 1#1), ∀ a, (k0_off4 v200) a + S4x8x16.size a ≤ S4x8x1000000.size a := fun v200 k0_hw1 k0_h1 k0_h2 k0_h3 k0_h4 k0_h5 k0_h6 k0_h7 => k0_hw1.2.1 k0_h1 k0_h2 k0_h3 k0_h4 k0_h5 k0_h6 k0_h7
theorem k0_off6_inb : ∀ (v200 : BitVec 32) (k0_hw1 : k0_chk1 v200), ∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : k0_cond6 v200 = 1#1), ∀ (k0_h7 : ¬(k0_cond7 v200 = 1#1)), ∀ a, (k0_off6 v200) a + S4x8x16.size a ≤ S4x8x1000000.size a := fun v200 k0_hw1 k0_h1 k0_h2 k0_h3 k0_h4 k0_h5 k0_h6 k0_h7 => k0_hw1.2.2.1 k0_h1 k0_h2 k0_h3 k0_h4 k0_h5 k0_h6 k0_h7
theorem k0_off8_inb : ∀ (v200 : BitVec 32) (k0_hw1 : k0_chk1 v200), ∀ (k0_h1 : k0_cond1 v200 = 1#1), ∀ (k0_h2 : k0_cond2 v200 = 1#1), ∀ (k0_h3 : k0_cond3 v200 = 1#1), ∀ (k0_h4 : k0_cond4 v200 = 1#1), ∀ (k0_h5 : k0_cond5 v200 = 1#1), ∀ (k0_h6 : ¬(k0_cond6 v200 = 1#1)), ∀ a, (k0_off8 v200) a + S4x8x16.size a ≤ S4x8x1000000.size a := fun v200 k0_hw1 k0_h1 k0_h2 k0_h3 k0_h4 k0_h5 k0_h6 => k0_hw1.2.2.2.1 k0_h1 k0_h2 k0_h3 k0_h4 k0_h5 k0_h6
theorem k0_off10_inb : ∀ (v200 : BitVec 32) (k0_hw1 : k0_chk1 v200), ∀ (k0_h1 : k0_cond1 v200 = 1#1), ∀ (k0_h2 : k0_cond2 v200 = 1#1), ∀ (k0_h3 : k0_cond3 v200 = 1#1), ∀ (k0_h4 : k0_cond4 v200 = 1#1), ∀ (k0_h5 : ¬(k0_cond5 v200 = 1#1)), ∀ a, (k0_off10 v200) a + S4x8x16.size a ≤ S4x8x1000000.size a := fun v200 k0_hw1 k0_h1 k0_h2 k0_h3 k0_h4 k0_h5 => k0_hw1.2.2.2.2.1 k0_h1 k0_h2 k0_h3 k0_h4 k0_h5
theorem k0_off12_inb : ∀ (v200 : BitVec 32) (k0_hw1 : k0_chk1 v200), ∀ (k0_h1 : k0_cond1 v200 = 1#1), ∀ (k0_h2 : k0_cond2 v200 = 1#1), ∀ (k0_h3 : k0_cond3 v200 = 1#1), ∀ (k0_h4 : ¬(k0_cond4 v200 = 1#1)), ∀ a, (k0_off12 v200) a + S4x8x16.size a ≤ S4x8x1000000.size a := fun v200 k0_hw1 k0_h1 k0_h2 k0_h3 k0_h4 => k0_hw1.2.2.2.2.2.1 k0_h1 k0_h2 k0_h3 k0_h4
theorem k0_off14_inb : ∀ (v200 : BitVec 32) (k0_hw1 : k0_chk1 v200), ∀ (k0_h1 : k0_cond1 v200 = 1#1), ∀ (k0_h2 : k0_cond2 v200 = 1#1), ∀ (k0_h3 : ¬(k0_cond3 v200 = 1#1)), ∀ a, (k0_off14 v200) a + S4x8x16.size a ≤ S4x8x1000000.size a := fun v200 k0_hw1 k0_h1 k0_h2 k0_h3 => k0_hw1.2.2.2.2.2.2.1 k0_h1 k0_h2 k0_h3
theorem k0_off16_inb : ∀ (v200 : BitVec 32) (k0_hw1 : k0_chk1 v200), ∀ (k0_h1 : k0_cond1 v200 = 1#1), ∀ (k0_h2 : ¬(k0_cond2 v200 = 1#1)), ∀ a, (k0_off16 v200) a + S4x8x16.size a ≤ S4x8x1000000.size a := fun v200 k0_hw1 k0_h1 k0_h2 => k0_hw1.2.2.2.2.2.2.2.1 k0_h1 k0_h2
theorem k0_off18_inb : ∀ (v200 : BitVec 32) (k0_hw1 : k0_chk1 v200), ∀ (k0_h1 : ¬(k0_cond1 v200 = 1#1)), ∀ a, (k0_off18 v200) a + S4x8x16.size a ≤ S4x8x1000000.size a := fun v200 k0_hw1 k0_h1 => k0_hw1.2.2.2.2.2.2.2.2 k0_h1

def k0_mult3 (v204 : BitVec 32) : BitVec 32 :=
  let c_m128_i32_54 : BitVec 32 := 4294967168#32
  let v216 : BitVec 32 := Scalar.andi v204 c_m128_i32_54
  v216

def k0_off19 (k0_t2 : Fin k0_t2_loop.trips) : Fin 3 → Nat :=
  let c0_i32_73 : BitVec 32 := 0#32
  let c0_i32_74 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off20 (v204 : BitVec 32) : Fin 3 → Nat :=
  let c0_i32_75 : BitVec 32 := 0#32
  let c0_i32_76 : BitVec 32 := 0#32
  let c_m128_i32_54 : BitVec 32 := 4294967168#32
  let v216 : BitVec 32 := Scalar.andi v204 c_m128_i32_54
  let v217 : BitVec 32 := v216
  let c112_i32 : BitVec 32 := 112#32
  let v243 : BitVec 32 := Scalar.addi v217 c112_i32
  ![0, 0, v243.toNat]
def k0_cond8 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c0_i32_60 : BitVec 32 := 0#32
  let v223 : BitVec 1 := Scalar.cmpi .ne v222 c0_i32_60
  v223

def k0_cond9 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c0_i32_62 : BitVec 32 := 0#32
  let v226 : BitVec 1 := Scalar.cmpi .ne v225 c0_i32_62
  v226

def k0_cond10 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c1_i32_63 : BitVec 32 := 1#32
  let v228 : BitVec 32 := Scalar.subi v225 c1_i32_63
  let c0_i32_64 : BitVec 32 := 0#32
  let v229 : BitVec 1 := Scalar.cmpi .ne v228 c0_i32_64
  v229

def k0_cond11 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c1_i32_63 : BitVec 32 := 1#32
  let v228 : BitVec 32 := Scalar.subi v225 c1_i32_63
  let c1_i32_65 : BitVec 32 := 1#32
  let v231 : BitVec 32 := Scalar.subi v228 c1_i32_65
  let c0_i32_66 : BitVec 32 := 0#32
  let v232 : BitVec 1 := Scalar.cmpi .ne v231 c0_i32_66
  v232

def k0_cond12 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c0_i32_68 : BitVec 32 := 0#32
  let v235 : BitVec 1 := Scalar.cmpi .ne v234 c0_i32_68
  v235

def k0_cond13 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c1_i32_69 : BitVec 32 := 1#32
  let v237 : BitVec 32 := Scalar.subi v234 c1_i32_69
  let c0_i32_70 : BitVec 32 := 0#32
  let v238 : BitVec 1 := Scalar.cmpi .ne v237 c0_i32_70
  v238

def k0_cond14 (v204 : BitVec 32) : BitVec 1 :=
  let c4_i32_55 : BitVec 32 := 4#32
  let v218 : BitVec 32 := Scalar.shrsi v204 c4_i32_55
  let c7_i32_56 : BitVec 32 := 7#32
  let v219 : BitVec 32 := Scalar.andi v218 c7_i32_56
  let c0_i32_58 : BitVec 32 := 0#32
  let v221 : BitVec 32 := Scalar.maxsi v219 c0_i32_58
  let c7_i32_59 : BitVec 32 := 7#32
  let v222 : BitVec 32 := Scalar.minsi v221 c7_i32_59
  let c1_i32_61 : BitVec 32 := 1#32
  let v225 : BitVec 32 := Scalar.subi v222 c1_i32_61
  let c1_i32_63 : BitVec 32 := 1#32
  let v228 : BitVec 32 := Scalar.subi v225 c1_i32_63
  let c1_i32_65 : BitVec 32 := 1#32
  let v231 : BitVec 32 := Scalar.subi v228 c1_i32_65
  let c1_i32_67 : BitVec 32 := 1#32
  let v234 : BitVec 32 := Scalar.subi v231 c1_i32_67
  let c1_i32_69 : BitVec 32 := 1#32
  let v237 : BitVec 32 := Scalar.subi v234 c1_i32_69
  let c1_i32_71 : BitVec 32 := 1#32
  let v240 : BitVec 32 := Scalar.subi v237 c1_i32_71
  let c0_i32_72 : BitVec 32 := 0#32
  let v241 : BitVec 1 := Scalar.cmpi .ne v240 c0_i32_72
  v241

def k0_off21 (k0_t2 : Fin k0_t2_loop.trips) : Fin 3 → Nat :=
  let c0_i32_73 : BitVec 32 := 0#32
  let c0_i32_74 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off22 (v204 : BitVec 32) : Fin 3 → Nat :=
  let c0_i32_75 : BitVec 32 := 0#32
  let c0_i32_76 : BitVec 32 := 0#32
  let c_m128_i32_54 : BitVec 32 := 4294967168#32
  let v216 : BitVec 32 := Scalar.andi v204 c_m128_i32_54
  let v217 : BitVec 32 := v216
  let c96_i32 : BitVec 32 := 96#32
  let v243 : BitVec 32 := Scalar.addi v217 c96_i32
  ![0, 0, v243.toNat]
def k0_off23 (k0_t2 : Fin k0_t2_loop.trips) : Fin 3 → Nat :=
  let c0_i32_71 : BitVec 32 := 0#32
  let c0_i32_72 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off24 (v204 : BitVec 32) : Fin 3 → Nat :=
  let c0_i32_73 : BitVec 32 := 0#32
  let c0_i32_74 : BitVec 32 := 0#32
  let c_m128_i32_54 : BitVec 32 := 4294967168#32
  let v216 : BitVec 32 := Scalar.andi v204 c_m128_i32_54
  let v217 : BitVec 32 := v216
  let c80_i32 : BitVec 32 := 80#32
  let v240 : BitVec 32 := Scalar.addi v217 c80_i32
  ![0, 0, v240.toNat]
def k0_off25 (k0_t2 : Fin k0_t2_loop.trips) : Fin 3 → Nat :=
  let c0_i32_70 : BitVec 32 := 0#32
  let c0_i32_71 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off26 (v204 : BitVec 32) : Fin 3 → Nat :=
  let c0_i32_72 : BitVec 32 := 0#32
  let c0_i32_73 : BitVec 32 := 0#32
  let c_m128_i32_54 : BitVec 32 := 4294967168#32
  let v216 : BitVec 32 := Scalar.andi v204 c_m128_i32_54
  let v217 : BitVec 32 := v216
  let c64_i32_69 : BitVec 32 := 64#32
  let v237 : BitVec 32 := Scalar.addi v217 c64_i32_69
  ![0, 0, v237.toNat]
def k0_off27 (k0_t2 : Fin k0_t2_loop.trips) : Fin 3 → Nat :=
  let c0_i32_67 : BitVec 32 := 0#32
  let c0_i32_68 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off28 (v204 : BitVec 32) : Fin 3 → Nat :=
  let c0_i32_69 : BitVec 32 := 0#32
  let c0_i32_70 : BitVec 32 := 0#32
  let c_m128_i32_54 : BitVec 32 := 4294967168#32
  let v216 : BitVec 32 := Scalar.andi v204 c_m128_i32_54
  let v217 : BitVec 32 := v216
  let c48_i32 : BitVec 32 := 48#32
  let v234 : BitVec 32 := Scalar.addi v217 c48_i32
  ![0, 0, v234.toNat]
def k0_off29 (k0_t2 : Fin k0_t2_loop.trips) : Fin 3 → Nat :=
  let c0_i32_66 : BitVec 32 := 0#32
  let c0_i32_67 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off30 (v204 : BitVec 32) : Fin 3 → Nat :=
  let c0_i32_68 : BitVec 32 := 0#32
  let c0_i32_69 : BitVec 32 := 0#32
  let c_m128_i32_54 : BitVec 32 := 4294967168#32
  let v216 : BitVec 32 := Scalar.andi v204 c_m128_i32_54
  let v217 : BitVec 32 := v216
  let c32_i32_65 : BitVec 32 := 32#32
  let v231 : BitVec 32 := Scalar.addi v217 c32_i32_65
  ![0, 0, v231.toNat]
def k0_off31 (k0_t2 : Fin k0_t2_loop.trips) : Fin 3 → Nat :=
  let c0_i32_64 : BitVec 32 := 0#32
  let c0_i32_65 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off32 (v204 : BitVec 32) : Fin 3 → Nat :=
  let c0_i32_66 : BitVec 32 := 0#32
  let c0_i32_67 : BitVec 32 := 0#32
  let c_m128_i32_54 : BitVec 32 := 4294967168#32
  let v216 : BitVec 32 := Scalar.andi v204 c_m128_i32_54
  let v217 : BitVec 32 := v216
  let c16_i32_63 : BitVec 32 := 16#32
  let v228 : BitVec 32 := Scalar.addi v217 c16_i32_63
  ![0, 0, v228.toNat]
def k0_off33 (k0_t2 : Fin k0_t2_loop.trips) : Fin 3 → Nat :=
  let c0_i32_62 : BitVec 32 := 0#32
  let c0_i32_63 : BitVec 32 := 0#32
  let c0_i32_3 : BitVec 32 := 0#32
  let c1_i32_5 : BitVec 32 := 1#32
  let arg13 : BitVec 32 := Scf.iv c0_i32_3 c1_i32_5 k0_t2
  let c128_i32_47 : BitVec 32 := 128#32
  let v205 : BitVec 32 := Scalar.muli arg13 c128_i32_47
  let v206 : BitVec 32 := v205
  let c64_i32_57 : BitVec 32 := 64#32
  let v220 : BitVec 32 := Scalar.addi v206 c64_i32_57
  ![0, 0, v220.toNat]
def k0_off34 (v204 : BitVec 32) : Fin 3 → Nat :=
  let c0_i32_64 : BitVec 32 := 0#32
  let c0_i32_65 : BitVec 32 := 0#32
  let c_m128_i32_54 : BitVec 32 := 4294967168#32
  let v216 : BitVec 32 := Scalar.andi v204 c_m128_i32_54
  let v217 : BitVec 32 := v216
  let c0_i32_61 : BitVec 32 := 0#32
  let v225 : BitVec 32 := Scalar.addi v217 c0_i32_61
  ![0, 0, v225.toNat]

def k0_chk2 (v204 : BitVec 32) : Prop :=
  (128 ∣ (k0_mult3 v204).toNat) ∧
  (∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : k0_cond13 v204 = 1#1), ∀ (k0_h14 : k0_cond14 v204 = 1#1), ∀ a, (k0_off20 v204) a + S4x8x16.size a ≤ S4x8x1000000.size a) ∧
  (∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : k0_cond13 v204 = 1#1), ∀ (k0_h14 : ¬(k0_cond14 v204 = 1#1)), ∀ a, (k0_off22 v204) a + S4x8x16.size a ≤ S4x8x1000000.size a) ∧
  (∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : ¬(k0_cond13 v204 = 1#1)), ∀ a, (k0_off24 v204) a + S4x8x16.size a ≤ S4x8x1000000.size a) ∧
  (∀ (k0_h8 : k0_cond8 v204 = 1#1), ∀ (k0_h9 : k0_cond9 v204 = 1#1), ∀ (k0_h10 : k0_cond10 v204 = 1#1), ∀ (k0_h11 : k0_cond11 v204 = 1#1), ∀ (k0_h12 : ¬(k0_cond12 v204 = 1#1)), ∀ a, (k0_off26 v204) a + S4x8x16.size a ≤ S4x8x1000000.size a) ∧
  (∀ (k0_h8 : k0_cond8 v204 = 1#1), ∀ (k0_h9 : k0_cond9 v204 = 1#1), ∀ (k0_h10 : k0_cond10 v204 = 1#1), ∀ (k0_h11 : ¬(k0_cond11 v204 = 1#1)), ∀ a, (k0_off28 v204) a + S4x8x16.size a ≤ S4x8x1000000.size a) ∧
  (∀ (k0_h8 : k0_cond8 v204 = 1#1), ∀ (k0_h9 : k0_cond9 v204 = 1#1), ∀ (k0_h10 : ¬(k0_cond10 v204 = 1#1)), ∀ a, (k0_off30 v204) a + S4x8x16.size a ≤ S4x8x1000000.size a) ∧
  (∀ (k0_h8 : k0_cond8 v204 = 1#1), ∀ (k0_h9 : ¬(k0_cond9 v204 = 1#1)), ∀ a, (k0_off32 v204) a + S4x8x16.size a ≤ S4x8x1000000.size a) ∧
  (∀ (k0_h8 : ¬(k0_cond8 v204 = 1#1)), ∀ a, (k0_off34 v204) a + S4x8x16.size a ≤ S4x8x1000000.size a)
theorem k0_mult3_dvd : ∀ (v204 : BitVec 32) (k0_hw2 : k0_chk2 v204), 128 ∣ (k0_mult3 v204).toNat := fun v204 k0_hw2 => k0_hw2.1
theorem k0_off20_inb : ∀ (v204 : BitVec 32) (k0_hw2 : k0_chk2 v204), ∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : k0_cond13 v204 = 1#1), ∀ (k0_h14 : k0_cond14 v204 = 1#1), ∀ a, (k0_off20 v204) a + S4x8x16.size a ≤ S4x8x1000000.size a := fun v204 k0_hw2 k0_h8 k0_h9 k0_h10 k0_h11 k0_h12 k0_h13 k0_h14 => k0_hw2.2.1 k0_h8 k0_h9 k0_h10 k0_h11 k0_h12 k0_h13 k0_h14
theorem k0_off22_inb : ∀ (v204 : BitVec 32) (k0_hw2 : k0_chk2 v204), ∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : k0_cond13 v204 = 1#1), ∀ (k0_h14 : ¬(k0_cond14 v204 = 1#1)), ∀ a, (k0_off22 v204) a + S4x8x16.size a ≤ S4x8x1000000.size a := fun v204 k0_hw2 k0_h8 k0_h9 k0_h10 k0_h11 k0_h12 k0_h13 k0_h14 => k0_hw2.2.2.1 k0_h8 k0_h9 k0_h10 k0_h11 k0_h12 k0_h13 k0_h14
theorem k0_off24_inb : ∀ (v204 : BitVec 32) (k0_hw2 : k0_chk2 v204), ∀ (k0_h8 : k0_cond8 v204 = 1#1), ∀ (k0_h9 : k0_cond9 v204 = 1#1), ∀ (k0_h10 : k0_cond10 v204 = 1#1), ∀ (k0_h11 : k0_cond11 v204 = 1#1), ∀ (k0_h12 : k0_cond12 v204 = 1#1), ∀ (k0_h13 : ¬(k0_cond13 v204 = 1#1)), ∀ a, (k0_off24 v204) a + S4x8x16.size a ≤ S4x8x1000000.size a := fun v204 k0_hw2 k0_h8 k0_h9 k0_h10 k0_h11 k0_h12 k0_h13 => k0_hw2.2.2.2.1 k0_h8 k0_h9 k0_h10 k0_h11 k0_h12 k0_h13
theorem k0_off26_inb : ∀ (v204 : BitVec 32) (k0_hw2 : k0_chk2 v204), ∀ (k0_h8 : k0_cond8 v204 = 1#1), ∀ (k0_h9 : k0_cond9 v204 = 1#1), ∀ (k0_h10 : k0_cond10 v204 = 1#1), ∀ (k0_h11 : k0_cond11 v204 = 1#1), ∀ (k0_h12 : ¬(k0_cond12 v204 = 1#1)), ∀ a, (k0_off26 v204) a + S4x8x16.size a ≤ S4x8x1000000.size a := fun v204 k0_hw2 k0_h8 k0_h9 k0_h10 k0_h11 k0_h12 => k0_hw2.2.2.2.2.1 k0_h8 k0_h9 k0_h10 k0_h11 k0_h12
theorem k0_off28_inb : ∀ (v204 : BitVec 32) (k0_hw2 : k0_chk2 v204), ∀ (k0_h8 : k0_cond8 v204 = 1#1), ∀ (k0_h9 : k0_cond9 v204 = 1#1), ∀ (k0_h10 : k0_cond10 v204 = 1#1), ∀ (k0_h11 : ¬(k0_cond11 v204 = 1#1)), ∀ a, (k0_off28 v204) a + S4x8x16.size a ≤ S4x8x1000000.size a := fun v204 k0_hw2 k0_h8 k0_h9 k0_h10 k0_h11 => k0_hw2.2.2.2.2.2.1 k0_h8 k0_h9 k0_h10 k0_h11
theorem k0_off30_inb : ∀ (v204 : BitVec 32) (k0_hw2 : k0_chk2 v204), ∀ (k0_h8 : k0_cond8 v204 = 1#1), ∀ (k0_h9 : k0_cond9 v204 = 1#1), ∀ (k0_h10 : ¬(k0_cond10 v204 = 1#1)), ∀ a, (k0_off30 v204) a + S4x8x16.size a ≤ S4x8x1000000.size a := fun v204 k0_hw2 k0_h8 k0_h9 k0_h10 => k0_hw2.2.2.2.2.2.2.1 k0_h8 k0_h9 k0_h10
theorem k0_off32_inb : ∀ (v204 : BitVec 32) (k0_hw2 : k0_chk2 v204), ∀ (k0_h8 : k0_cond8 v204 = 1#1), ∀ (k0_h9 : ¬(k0_cond9 v204 = 1#1)), ∀ a, (k0_off32 v204) a + S4x8x16.size a ≤ S4x8x1000000.size a := fun v204 k0_hw2 k0_h8 k0_h9 => k0_hw2.2.2.2.2.2.2.2.1 k0_h8 k0_h9
theorem k0_off34_inb : ∀ (v204 : BitVec 32) (k0_hw2 : k0_chk2 v204), ∀ (k0_h8 : ¬(k0_cond8 v204 = 1#1)), ∀ a, (k0_off34 v204) a + S4x8x16.size a ≤ S4x8x1000000.size a := fun v204 k0_hw2 k0_h8 => k0_hw2.2.2.2.2.2.2.2.2 k0_h8

@[reducible] def k0_t3_loop : Scf.Loop 32 :=
  let c0_i32_8 : BitVec 32 := 0#32
  let c16_i32_9 : BitVec 32 := 16#32
  let v9 : BitVec 32 := Scalar.addi c0_i32_8 c16_i32_9
  let c1_i32_10 : BitVec 32 := 1#32
  ⟨c0_i32_8, v9, c1_i32_10⟩
def k0_mult4 (k0_t3 : Fin k0_t3_loop.trips) : BitVec 32 :=
  let c0_i32_8 : BitVec 32 := 0#32
  let c1_i32_10 : BitVec 32 := 1#32
  let arg13 : BitVec 32 := Scf.iv c0_i32_8 c1_i32_10 k0_t3
  let c128_i32_47 : BitVec 32 := 128#32
  let v196 : BitVec 32 := Scalar.muli arg13 c128_i32_47
  v196
def k0_off35 (k0_t3 : Fin k0_t3_loop.trips) (c0_i32_48 : BitVec 32) : Fin 3 → Nat :=
  let c0_i32_49 : BitVec 32 := 0#32
  let c0_i32_50 : BitVec 32 := 0#32
  let c0_i32_8 : BitVec 32 := 0#32
  let c1_i32_10 : BitVec 32 := 1#32
  let arg13 : BitVec 32 := Scf.iv c0_i32_8 c1_i32_10 k0_t3
  let c128_i32_47 : BitVec 32 := 128#32
  let v196 : BitVec 32 := Scalar.muli arg13 c128_i32_47
  let v197 : BitVec 32 := v196
  let v198 : BitVec 32 := Scalar.addi v197 c0_i32_48
  ![0, 0, v198.toNat]
def k0_off36 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v7 : BitVec 32 := Scalar.muli arg12 c16_i32
  let v10 : Index := Scalar.indexCast v7
  ![v10.toNat]

def k0_chk3 (v16 : IVec S16 32) (v21 : IVec S16 32) (v23 : IVec S16 32) (v24 : IVec S16 32) : Prop :=
  (∀ a x, ((![v23, v24, v16] : Fin 3 → IVec S16 32) a x).toNat < S4x8x2048.size a) ∧
  (∀ a x, ((![v23, v24, v21] : Fin 3 → IVec S16 32) a x).toNat < S4x8x2048.size a)
theorem k0_idx1_inb : ∀ (v16 : IVec S16 32) (v21 : IVec S16 32) (v23 : IVec S16 32) (v24 : IVec S16 32) (k0_hw3 : k0_chk3 v16 v21 v23 v24), ∀ a x, ((![v23, v24, v16] : Fin 3 → IVec S16 32) a x).toNat < S4x8x2048.size a := fun v16 v21 v23 v24 k0_hw3 => k0_hw3.1
theorem k0_idx2_inb : ∀ (v16 : IVec S16 32) (v21 : IVec S16 32) (v23 : IVec S16 32) (v24 : IVec S16 32) (k0_hw3 : k0_chk3 v16 v21 v23 v24), ∀ a x, ((![v23, v24, v21] : Fin 3 → IVec S16 32) a x).toNat < S4x8x2048.size a := fun v16 v21 v23 v24 k0_hw3 => k0_hw3.2

def k0_chk4 (v16 : IVec S16 32) (v21 : IVec S16 32) (v23 : IVec S16 32) (v29 : IVec S16 32) : Prop :=
  (∀ a x, ((![v23, v29, v16] : Fin 3 → IVec S16 32) a x).toNat < S4x8x2048.size a) ∧
  (∀ a x, ((![v23, v29, v21] : Fin 3 → IVec S16 32) a x).toNat < S4x8x2048.size a)
theorem k0_idx3_inb : ∀ (v16 : IVec S16 32) (v21 : IVec S16 32) (v23 : IVec S16 32) (v29 : IVec S16 32) (k0_hw4 : k0_chk4 v16 v21 v23 v29), ∀ a x, ((![v23, v29, v16] : Fin 3 → IVec S16 32) a x).toNat < S4x8x2048.size a := fun v16 v21 v23 v29 k0_hw4 => k0_hw4.1
theorem k0_idx4_inb : ∀ (v16 : IVec S16 32) (v21 : IVec S16 32) (v23 : IVec S16 32) (v29 : IVec S16 32) (k0_hw4 : k0_chk4 v16 v21 v23 v29), ∀ a x, ((![v23, v29, v21] : Fin 3 → IVec S16 32) a x).toNat < S4x8x2048.size a := fun v16 v21 v23 v29 k0_hw4 => k0_hw4.2

def k0_chk5 (v16 : IVec S16 32) (v21 : IVec S16 32) (v23 : IVec S16 32) (v34 : IVec S16 32) : Prop :=
  (∀ a x, ((![v23, v34, v16] : Fin 3 → IVec S16 32) a x).toNat < S4x8x2048.size a) ∧
  (∀ a x, ((![v23, v34, v21] : Fin 3 → IVec S16 32) a x).toNat < S4x8x2048.size a)
theorem k0_idx5_inb : ∀ (v16 : IVec S16 32) (v21 : IVec S16 32) (v23 : IVec S16 32) (v34 : IVec S16 32) (k0_hw5 : k0_chk5 v16 v21 v23 v34), ∀ a x, ((![v23, v34, v16] : Fin 3 → IVec S16 32) a x).toNat < S4x8x2048.size a := fun v16 v21 v23 v34 k0_hw5 => k0_hw5.1
theorem k0_idx6_inb : ∀ (v16 : IVec S16 32) (v21 : IVec S16 32) (v23 : IVec S16 32) (v34 : IVec S16 32) (k0_hw5 : k0_chk5 v16 v21 v23 v34), ∀ a x, ((![v23, v34, v21] : Fin 3 → IVec S16 32) a x).toNat < S4x8x2048.size a := fun v16 v21 v23 v34 k0_hw5 => k0_hw5.2

def k0_chk6 (v16 : IVec S16 32) (v21 : IVec S16 32) (v23 : IVec S16 32) (v39 : IVec S16 32) : Prop :=
  (∀ a x, ((![v23, v39, v16] : Fin 3 → IVec S16 32) a x).toNat < S4x8x2048.size a) ∧
  (∀ a x, ((![v23, v39, v21] : Fin 3 → IVec S16 32) a x).toNat < S4x8x2048.size a)
theorem k0_idx7_inb : ∀ (v16 : IVec S16 32) (v21 : IVec S16 32) (v23 : IVec S16 32) (v39 : IVec S16 32) (k0_hw6 : k0_chk6 v16 v21 v23 v39), ∀ a x, ((![v23, v39, v16] : Fin 3 → IVec S16 32) a x).toNat < S4x8x2048.size a := fun v16 v21 v23 v39 k0_hw6 => k0_hw6.1
theorem k0_idx8_inb : ∀ (v16 : IVec S16 32) (v21 : IVec S16 32) (v23 : IVec S16 32) (v39 : IVec S16 32) (k0_hw6 : k0_chk6 v16 v21 v23 v39), ∀ a x, ((![v23, v39, v21] : Fin 3 → IVec S16 32) a x).toNat < S4x8x2048.size a := fun v16 v21 v23 v39 k0_hw6 => k0_hw6.2

def k0_chk7 (v16 : IVec S16 32) (v21 : IVec S16 32) (v23 : IVec S16 32) (v44 : IVec S16 32) : Prop :=
  (∀ a x, ((![v23, v44, v16] : Fin 3 → IVec S16 32) a x).toNat < S4x8x2048.size a) ∧
  (∀ a x, ((![v23, v44, v21] : Fin 3 → IVec S16 32) a x).toNat < S4x8x2048.size a)
theorem k0_idx9_inb : ∀ (v16 : IVec S16 32) (v21 : IVec S16 32) (v23 : IVec S16 32) (v44 : IVec S16 32) (k0_hw7 : k0_chk7 v16 v21 v23 v44), ∀ a x, ((![v23, v44, v16] : Fin 3 → IVec S16 32) a x).toNat < S4x8x2048.size a := fun v16 v21 v23 v44 k0_hw7 => k0_hw7.1
theorem k0_idx10_inb : ∀ (v16 : IVec S16 32) (v21 : IVec S16 32) (v23 : IVec S16 32) (v44 : IVec S16 32) (k0_hw7 : k0_chk7 v16 v21 v23 v44), ∀ a x, ((![v23, v44, v21] : Fin 3 → IVec S16 32) a x).toNat < S4x8x2048.size a := fun v16 v21 v23 v44 k0_hw7 => k0_hw7.2

def k0_chk8 (v16 : IVec S16 32) (v21 : IVec S16 32) (v23 : IVec S16 32) (v49 : IVec S16 32) : Prop :=
  (∀ a x, ((![v23, v49, v16] : Fin 3 → IVec S16 32) a x).toNat < S4x8x2048.size a) ∧
  (∀ a x, ((![v23, v49, v21] : Fin 3 → IVec S16 32) a x).toNat < S4x8x2048.size a)
theorem k0_idx11_inb : ∀ (v16 : IVec S16 32) (v21 : IVec S16 32) (v23 : IVec S16 32) (v49 : IVec S16 32) (k0_hw8 : k0_chk8 v16 v21 v23 v49), ∀ a x, ((![v23, v49, v16] : Fin 3 → IVec S16 32) a x).toNat < S4x8x2048.size a := fun v16 v21 v23 v49 k0_hw8 => k0_hw8.1
theorem k0_idx12_inb : ∀ (v16 : IVec S16 32) (v21 : IVec S16 32) (v23 : IVec S16 32) (v49 : IVec S16 32) (k0_hw8 : k0_chk8 v16 v21 v23 v49), ∀ a x, ((![v23, v49, v21] : Fin 3 → IVec S16 32) a x).toNat < S4x8x2048.size a := fun v16 v21 v23 v49 k0_hw8 => k0_hw8.2

def k0_chk9 (v16 : IVec S16 32) (v21 : IVec S16 32) (v23 : IVec S16 32) (v54 : IVec S16 32) : Prop :=
  (∀ a x, ((![v23, v54, v16] : Fin 3 → IVec S16 32) a x).toNat < S4x8x2048.size a) ∧
  (∀ a x, ((![v23, v54, v21] : Fin 3 → IVec S16 32) a x).toNat < S4x8x2048.size a)
theorem k0_idx13_inb : ∀ (v16 : IVec S16 32) (v21 : IVec S16 32) (v23 : IVec S16 32) (v54 : IVec S16 32) (k0_hw9 : k0_chk9 v16 v21 v23 v54), ∀ a x, ((![v23, v54, v16] : Fin 3 → IVec S16 32) a x).toNat < S4x8x2048.size a := fun v16 v21 v23 v54 k0_hw9 => k0_hw9.1
theorem k0_idx14_inb : ∀ (v16 : IVec S16 32) (v21 : IVec S16 32) (v23 : IVec S16 32) (v54 : IVec S16 32) (k0_hw9 : k0_chk9 v16 v21 v23 v54), ∀ a x, ((![v23, v54, v21] : Fin 3 → IVec S16 32) a x).toNat < S4x8x2048.size a := fun v16 v21 v23 v54 k0_hw9 => k0_hw9.2

def k0_chk10 (v16 : IVec S16 32) (v21 : IVec S16 32) (v23 : IVec S16 32) (v59 : IVec S16 32) : Prop :=
  (∀ a x, ((![v23, v59, v16] : Fin 3 → IVec S16 32) a x).toNat < S4x8x2048.size a) ∧
  (∀ a x, ((![v23, v59, v21] : Fin 3 → IVec S16 32) a x).toNat < S4x8x2048.size a)
theorem k0_idx15_inb : ∀ (v16 : IVec S16 32) (v21 : IVec S16 32) (v23 : IVec S16 32) (v59 : IVec S16 32) (k0_hw10 : k0_chk10 v16 v21 v23 v59), ∀ a x, ((![v23, v59, v16] : Fin 3 → IVec S16 32) a x).toNat < S4x8x2048.size a := fun v16 v21 v23 v59 k0_hw10 => k0_hw10.1
theorem k0_idx16_inb : ∀ (v16 : IVec S16 32) (v21 : IVec S16 32) (v23 : IVec S16 32) (v59 : IVec S16 32) (k0_hw10 : k0_chk10 v16 v21 v23 v59), ∀ a x, ((![v23, v59, v21] : Fin 3 → IVec S16 32) a x).toNat < S4x8x2048.size a := fun v16 v21 v23 v59 k0_hw10 => k0_hw10.2

def k0_chk11 (v16 : IVec S16 32) (v21 : IVec S16 32) (v64 : IVec S16 32) (v65 : IVec S16 32) : Prop :=
  (∀ a x, ((![v64, v65, v16] : Fin 3 → IVec S16 32) a x).toNat < S4x8x2048.size a) ∧
  (∀ a x, ((![v64, v65, v21] : Fin 3 → IVec S16 32) a x).toNat < S4x8x2048.size a)
theorem k0_idx17_inb : ∀ (v16 : IVec S16 32) (v21 : IVec S16 32) (v64 : IVec S16 32) (v65 : IVec S16 32) (k0_hw11 : k0_chk11 v16 v21 v64 v65), ∀ a x, ((![v64, v65, v16] : Fin 3 → IVec S16 32) a x).toNat < S4x8x2048.size a := fun v16 v21 v64 v65 k0_hw11 => k0_hw11.1
theorem k0_idx18_inb : ∀ (v16 : IVec S16 32) (v21 : IVec S16 32) (v64 : IVec S16 32) (v65 : IVec S16 32) (k0_hw11 : k0_chk11 v16 v21 v64 v65), ∀ a x, ((![v64, v65, v21] : Fin 3 → IVec S16 32) a x).toNat < S4x8x2048.size a := fun v16 v21 v64 v65 k0_hw11 => k0_hw11.2

def k0_chk12 (v16 : IVec S16 32) (v21 : IVec S16 32) (v64 : IVec S16 32) (v70 : IVec S16 32) : Prop :=
  (∀ a x, ((![v64, v70, v16] : Fin 3 → IVec S16 32) a x).toNat < S4x8x2048.size a) ∧
  (∀ a x, ((![v64, v70, v21] : Fin 3 → IVec S16 32) a x).toNat < S4x8x2048.size a)
theorem k0_idx19_inb : ∀ (v16 : IVec S16 32) (v21 : IVec S16 32) (v64 : IVec S16 32) (v70 : IVec S16 32) (k0_hw12 : k0_chk12 v16 v21 v64 v70), ∀ a x, ((![v64, v70, v16] : Fin 3 → IVec S16 32) a x).toNat < S4x8x2048.size a := fun v16 v21 v64 v70 k0_hw12 => k0_hw12.1
theorem k0_idx20_inb : ∀ (v16 : IVec S16 32) (v21 : IVec S16 32) (v64 : IVec S16 32) (v70 : IVec S16 32) (k0_hw12 : k0_chk12 v16 v21 v64 v70), ∀ a x, ((![v64, v70, v21] : Fin 3 → IVec S16 32) a x).toNat < S4x8x2048.size a := fun v16 v21 v64 v70 k0_hw12 => k0_hw12.2

def k0_chk13 (v16 : IVec S16 32) (v21 : IVec S16 32) (v64 : IVec S16 32) (v75 : IVec S16 32) : Prop :=
  (∀ a x, ((![v64, v75, v16] : Fin 3 → IVec S16 32) a x).toNat < S4x8x2048.size a) ∧
  (∀ a x, ((![v64, v75, v21] : Fin 3 → IVec S16 32) a x).toNat < S4x8x2048.size a)
theorem k0_idx21_inb : ∀ (v16 : IVec S16 32) (v21 : IVec S16 32) (v64 : IVec S16 32) (v75 : IVec S16 32) (k0_hw13 : k0_chk13 v16 v21 v64 v75), ∀ a x, ((![v64, v75, v16] : Fin 3 → IVec S16 32) a x).toNat < S4x8x2048.size a := fun v16 v21 v64 v75 k0_hw13 => k0_hw13.1
theorem k0_idx22_inb : ∀ (v16 : IVec S16 32) (v21 : IVec S16 32) (v64 : IVec S16 32) (v75 : IVec S16 32) (k0_hw13 : k0_chk13 v16 v21 v64 v75), ∀ a x, ((![v64, v75, v21] : Fin 3 → IVec S16 32) a x).toNat < S4x8x2048.size a := fun v16 v21 v64 v75 k0_hw13 => k0_hw13.2

def k0_chk14 (v16 : IVec S16 32) (v21 : IVec S16 32) (v64 : IVec S16 32) (v80 : IVec S16 32) : Prop :=
  (∀ a x, ((![v64, v80, v16] : Fin 3 → IVec S16 32) a x).toNat < S4x8x2048.size a) ∧
  (∀ a x, ((![v64, v80, v21] : Fin 3 → IVec S16 32) a x).toNat < S4x8x2048.size a)
theorem k0_idx23_inb : ∀ (v16 : IVec S16 32) (v21 : IVec S16 32) (v64 : IVec S16 32) (v80 : IVec S16 32) (k0_hw14 : k0_chk14 v16 v21 v64 v80), ∀ a x, ((![v64, v80, v16] : Fin 3 → IVec S16 32) a x).toNat < S4x8x2048.size a := fun v16 v21 v64 v80 k0_hw14 => k0_hw14.1
theorem k0_idx24_inb : ∀ (v16 : IVec S16 32) (v21 : IVec S16 32) (v64 : IVec S16 32) (v80 : IVec S16 32) (k0_hw14 : k0_chk14 v16 v21 v64 v80), ∀ a x, ((![v64, v80, v21] : Fin 3 → IVec S16 32) a x).toNat < S4x8x2048.size a := fun v16 v21 v64 v80 k0_hw14 => k0_hw14.2

def k0_chk15 (v16 : IVec S16 32) (v21 : IVec S16 32) (v64 : IVec S16 32) (v85 : IVec S16 32) : Prop :=
  (∀ a x, ((![v64, v85, v16] : Fin 3 → IVec S16 32) a x).toNat < S4x8x2048.size a) ∧
  (∀ a x, ((![v64, v85, v21] : Fin 3 → IVec S16 32) a x).toNat < S4x8x2048.size a)
theorem k0_idx25_inb : ∀ (v16 : IVec S16 32) (v21 : IVec S16 32) (v64 : IVec S16 32) (v85 : IVec S16 32) (k0_hw15 : k0_chk15 v16 v21 v64 v85), ∀ a x, ((![v64, v85, v16] : Fin 3 → IVec S16 32) a x).toNat < S4x8x2048.size a := fun v16 v21 v64 v85 k0_hw15 => k0_hw15.1
theorem k0_idx26_inb : ∀ (v16 : IVec S16 32) (v21 : IVec S16 32) (v64 : IVec S16 32) (v85 : IVec S16 32) (k0_hw15 : k0_chk15 v16 v21 v64 v85), ∀ a x, ((![v64, v85, v21] : Fin 3 → IVec S16 32) a x).toNat < S4x8x2048.size a := fun v16 v21 v64 v85 k0_hw15 => k0_hw15.2

def k0_chk16 (v16 : IVec S16 32) (v21 : IVec S16 32) (v64 : IVec S16 32) (v90 : IVec S16 32) : Prop :=
  (∀ a x, ((![v64, v90, v16] : Fin 3 → IVec S16 32) a x).toNat < S4x8x2048.size a) ∧
  (∀ a x, ((![v64, v90, v21] : Fin 3 → IVec S16 32) a x).toNat < S4x8x2048.size a)
theorem k0_idx27_inb : ∀ (v16 : IVec S16 32) (v21 : IVec S16 32) (v64 : IVec S16 32) (v90 : IVec S16 32) (k0_hw16 : k0_chk16 v16 v21 v64 v90), ∀ a x, ((![v64, v90, v16] : Fin 3 → IVec S16 32) a x).toNat < S4x8x2048.size a := fun v16 v21 v64 v90 k0_hw16 => k0_hw16.1
theorem k0_idx28_inb : ∀ (v16 : IVec S16 32) (v21 : IVec S16 32) (v64 : IVec S16 32) (v90 : IVec S16 32) (k0_hw16 : k0_chk16 v16 v21 v64 v90), ∀ a x, ((![v64, v90, v21] : Fin 3 → IVec S16 32) a x).toNat < S4x8x2048.size a := fun v16 v21 v64 v90 k0_hw16 => k0_hw16.2

def k0_chk17 (v16 : IVec S16 32) (v21 : IVec S16 32) (v64 : IVec S16 32) (v95 : IVec S16 32) : Prop :=
  (∀ a x, ((![v64, v95, v16] : Fin 3 → IVec S16 32) a x).toNat < S4x8x2048.size a) ∧
  (∀ a x, ((![v64, v95, v21] : Fin 3 → IVec S16 32) a x).toNat < S4x8x2048.size a)
theorem k0_idx29_inb : ∀ (v16 : IVec S16 32) (v21 : IVec S16 32) (v64 : IVec S16 32) (v95 : IVec S16 32) (k0_hw17 : k0_chk17 v16 v21 v64 v95), ∀ a x, ((![v64, v95, v16] : Fin 3 → IVec S16 32) a x).toNat < S4x8x2048.size a := fun v16 v21 v64 v95 k0_hw17 => k0_hw17.1
theorem k0_idx30_inb : ∀ (v16 : IVec S16 32) (v21 : IVec S16 32) (v64 : IVec S16 32) (v95 : IVec S16 32) (k0_hw17 : k0_chk17 v16 v21 v64 v95), ∀ a x, ((![v64, v95, v21] : Fin 3 → IVec S16 32) a x).toNat < S4x8x2048.size a := fun v16 v21 v64 v95 k0_hw17 => k0_hw17.2

def k0_chk18 (v16 : IVec S16 32) (v21 : IVec S16 32) (v64 : IVec S16 32) (v100 : IVec S16 32) : Prop :=
  (∀ a x, ((![v64, v100, v16] : Fin 3 → IVec S16 32) a x).toNat < S4x8x2048.size a) ∧
  (∀ a x, ((![v64, v100, v21] : Fin 3 → IVec S16 32) a x).toNat < S4x8x2048.size a)
theorem k0_idx31_inb : ∀ (v16 : IVec S16 32) (v21 : IVec S16 32) (v64 : IVec S16 32) (v100 : IVec S16 32) (k0_hw18 : k0_chk18 v16 v21 v64 v100), ∀ a x, ((![v64, v100, v16] : Fin 3 → IVec S16 32) a x).toNat < S4x8x2048.size a := fun v16 v21 v64 v100 k0_hw18 => k0_hw18.1
theorem k0_idx32_inb : ∀ (v16 : IVec S16 32) (v21 : IVec S16 32) (v64 : IVec S16 32) (v100 : IVec S16 32) (k0_hw18 : k0_chk18 v16 v21 v64 v100), ∀ a x, ((![v64, v100, v21] : Fin 3 → IVec S16 32) a x).toNat < S4x8x2048.size a := fun v16 v21 v64 v100 k0_hw18 => k0_hw18.2

def k0_chk19 (v16 : IVec S16 32) (v21 : IVec S16 32) (v105 : IVec S16 32) (v106 : IVec S16 32) : Prop :=
  (∀ a x, ((![v105, v106, v16] : Fin 3 → IVec S16 32) a x).toNat < S4x8x2048.size a) ∧
  (∀ a x, ((![v105, v106, v21] : Fin 3 → IVec S16 32) a x).toNat < S4x8x2048.size a)
theorem k0_idx33_inb : ∀ (v16 : IVec S16 32) (v21 : IVec S16 32) (v105 : IVec S16 32) (v106 : IVec S16 32) (k0_hw19 : k0_chk19 v16 v21 v105 v106), ∀ a x, ((![v105, v106, v16] : Fin 3 → IVec S16 32) a x).toNat < S4x8x2048.size a := fun v16 v21 v105 v106 k0_hw19 => k0_hw19.1
theorem k0_idx34_inb : ∀ (v16 : IVec S16 32) (v21 : IVec S16 32) (v105 : IVec S16 32) (v106 : IVec S16 32) (k0_hw19 : k0_chk19 v16 v21 v105 v106), ∀ a x, ((![v105, v106, v21] : Fin 3 → IVec S16 32) a x).toNat < S4x8x2048.size a := fun v16 v21 v105 v106 k0_hw19 => k0_hw19.2

def k0_chk20 (v16 : IVec S16 32) (v21 : IVec S16 32) (v105 : IVec S16 32) (v111 : IVec S16 32) : Prop :=
  (∀ a x, ((![v105, v111, v16] : Fin 3 → IVec S16 32) a x).toNat < S4x8x2048.size a) ∧
  (∀ a x, ((![v105, v111, v21] : Fin 3 → IVec S16 32) a x).toNat < S4x8x2048.size a)
theorem k0_idx35_inb : ∀ (v16 : IVec S16 32) (v21 : IVec S16 32) (v105 : IVec S16 32) (v111 : IVec S16 32) (k0_hw20 : k0_chk20 v16 v21 v105 v111), ∀ a x, ((![v105, v111, v16] : Fin 3 → IVec S16 32) a x).toNat < S4x8x2048.size a := fun v16 v21 v105 v111 k0_hw20 => k0_hw20.1
theorem k0_idx36_inb : ∀ (v16 : IVec S16 32) (v21 : IVec S16 32) (v105 : IVec S16 32) (v111 : IVec S16 32) (k0_hw20 : k0_chk20 v16 v21 v105 v111), ∀ a x, ((![v105, v111, v21] : Fin 3 → IVec S16 32) a x).toNat < S4x8x2048.size a := fun v16 v21 v105 v111 k0_hw20 => k0_hw20.2

def k0_chk21 (v16 : IVec S16 32) (v21 : IVec S16 32) (v105 : IVec S16 32) (v116 : IVec S16 32) : Prop :=
  (∀ a x, ((![v105, v116, v16] : Fin 3 → IVec S16 32) a x).toNat < S4x8x2048.size a) ∧
  (∀ a x, ((![v105, v116, v21] : Fin 3 → IVec S16 32) a x).toNat < S4x8x2048.size a)
theorem k0_idx37_inb : ∀ (v16 : IVec S16 32) (v21 : IVec S16 32) (v105 : IVec S16 32) (v116 : IVec S16 32) (k0_hw21 : k0_chk21 v16 v21 v105 v116), ∀ a x, ((![v105, v116, v16] : Fin 3 → IVec S16 32) a x).toNat < S4x8x2048.size a := fun v16 v21 v105 v116 k0_hw21 => k0_hw21.1
theorem k0_idx38_inb : ∀ (v16 : IVec S16 32) (v21 : IVec S16 32) (v105 : IVec S16 32) (v116 : IVec S16 32) (k0_hw21 : k0_chk21 v16 v21 v105 v116), ∀ a x, ((![v105, v116, v21] : Fin 3 → IVec S16 32) a x).toNat < S4x8x2048.size a := fun v16 v21 v105 v116 k0_hw21 => k0_hw21.2

def k0_chk22 (v16 : IVec S16 32) (v21 : IVec S16 32) (v105 : IVec S16 32) (v121 : IVec S16 32) : Prop :=
  (∀ a x, ((![v105, v121, v16] : Fin 3 → IVec S16 32) a x).toNat < S4x8x2048.size a) ∧
  (∀ a x, ((![v105, v121, v21] : Fin 3 → IVec S16 32) a x).toNat < S4x8x2048.size a)
theorem k0_idx39_inb : ∀ (v16 : IVec S16 32) (v21 : IVec S16 32) (v105 : IVec S16 32) (v121 : IVec S16 32) (k0_hw22 : k0_chk22 v16 v21 v105 v121), ∀ a x, ((![v105, v121, v16] : Fin 3 → IVec S16 32) a x).toNat < S4x8x2048.size a := fun v16 v21 v105 v121 k0_hw22 => k0_hw22.1
theorem k0_idx40_inb : ∀ (v16 : IVec S16 32) (v21 : IVec S16 32) (v105 : IVec S16 32) (v121 : IVec S16 32) (k0_hw22 : k0_chk22 v16 v21 v105 v121), ∀ a x, ((![v105, v121, v21] : Fin 3 → IVec S16 32) a x).toNat < S4x8x2048.size a := fun v16 v21 v105 v121 k0_hw22 => k0_hw22.2

def k0_chk23 (v16 : IVec S16 32) (v21 : IVec S16 32) (v105 : IVec S16 32) (v126 : IVec S16 32) : Prop :=
  (∀ a x, ((![v105, v126, v16] : Fin 3 → IVec S16 32) a x).toNat < S4x8x2048.size a) ∧
  (∀ a x, ((![v105, v126, v21] : Fin 3 → IVec S16 32) a x).toNat < S4x8x2048.size a)
theorem k0_idx41_inb : ∀ (v16 : IVec S16 32) (v21 : IVec S16 32) (v105 : IVec S16 32) (v126 : IVec S16 32) (k0_hw23 : k0_chk23 v16 v21 v105 v126), ∀ a x, ((![v105, v126, v16] : Fin 3 → IVec S16 32) a x).toNat < S4x8x2048.size a := fun v16 v21 v105 v126 k0_hw23 => k0_hw23.1
theorem k0_idx42_inb : ∀ (v16 : IVec S16 32) (v21 : IVec S16 32) (v105 : IVec S16 32) (v126 : IVec S16 32) (k0_hw23 : k0_chk23 v16 v21 v105 v126), ∀ a x, ((![v105, v126, v21] : Fin 3 → IVec S16 32) a x).toNat < S4x8x2048.size a := fun v16 v21 v105 v126 k0_hw23 => k0_hw23.2

def k0_chk24 (v16 : IVec S16 32) (v21 : IVec S16 32) (v105 : IVec S16 32) (v131 : IVec S16 32) : Prop :=
  (∀ a x, ((![v105, v131, v16] : Fin 3 → IVec S16 32) a x).toNat < S4x8x2048.size a) ∧
  (∀ a x, ((![v105, v131, v21] : Fin 3 → IVec S16 32) a x).toNat < S4x8x2048.size a)
theorem k0_idx43_inb : ∀ (v16 : IVec S16 32) (v21 : IVec S16 32) (v105 : IVec S16 32) (v131 : IVec S16 32) (k0_hw24 : k0_chk24 v16 v21 v105 v131), ∀ a x, ((![v105, v131, v16] : Fin 3 → IVec S16 32) a x).toNat < S4x8x2048.size a := fun v16 v21 v105 v131 k0_hw24 => k0_hw24.1
theorem k0_idx44_inb : ∀ (v16 : IVec S16 32) (v21 : IVec S16 32) (v105 : IVec S16 32) (v131 : IVec S16 32) (k0_hw24 : k0_chk24 v16 v21 v105 v131), ∀ a x, ((![v105, v131, v21] : Fin 3 → IVec S16 32) a x).toNat < S4x8x2048.size a := fun v16 v21 v105 v131 k0_hw24 => k0_hw24.2

def k0_chk25 (v16 : IVec S16 32) (v21 : IVec S16 32) (v105 : IVec S16 32) (v136 : IVec S16 32) : Prop :=
  (∀ a x, ((![v105, v136, v16] : Fin 3 → IVec S16 32) a x).toNat < S4x8x2048.size a) ∧
  (∀ a x, ((![v105, v136, v21] : Fin 3 → IVec S16 32) a x).toNat < S4x8x2048.size a)
theorem k0_idx45_inb : ∀ (v16 : IVec S16 32) (v21 : IVec S16 32) (v105 : IVec S16 32) (v136 : IVec S16 32) (k0_hw25 : k0_chk25 v16 v21 v105 v136), ∀ a x, ((![v105, v136, v16] : Fin 3 → IVec S16 32) a x).toNat < S4x8x2048.size a := fun v16 v21 v105 v136 k0_hw25 => k0_hw25.1
theorem k0_idx46_inb : ∀ (v16 : IVec S16 32) (v21 : IVec S16 32) (v105 : IVec S16 32) (v136 : IVec S16 32) (k0_hw25 : k0_chk25 v16 v21 v105 v136), ∀ a x, ((![v105, v136, v21] : Fin 3 → IVec S16 32) a x).toNat < S4x8x2048.size a := fun v16 v21 v105 v136 k0_hw25 => k0_hw25.2

def k0_chk26 (v16 : IVec S16 32) (v21 : IVec S16 32) (v105 : IVec S16 32) (v141 : IVec S16 32) : Prop :=
  (∀ a x, ((![v105, v141, v16] : Fin 3 → IVec S16 32) a x).toNat < S4x8x2048.size a) ∧
  (∀ a x, ((![v105, v141, v21] : Fin 3 → IVec S16 32) a x).toNat < S4x8x2048.size a)
theorem k0_idx47_inb : ∀ (v16 : IVec S16 32) (v21 : IVec S16 32) (v105 : IVec S16 32) (v141 : IVec S16 32) (k0_hw26 : k0_chk26 v16 v21 v105 v141), ∀ a x, ((![v105, v141, v16] : Fin 3 → IVec S16 32) a x).toNat < S4x8x2048.size a := fun v16 v21 v105 v141 k0_hw26 => k0_hw26.1
theorem k0_idx48_inb : ∀ (v16 : IVec S16 32) (v21 : IVec S16 32) (v105 : IVec S16 32) (v141 : IVec S16 32) (k0_hw26 : k0_chk26 v16 v21 v105 v141), ∀ a x, ((![v105, v141, v21] : Fin 3 → IVec S16 32) a x).toNat < S4x8x2048.size a := fun v16 v21 v105 v141 k0_hw26 => k0_hw26.2

def k0_chk27 (v16 : IVec S16 32) (v21 : IVec S16 32) (v146 : IVec S16 32) (v147 : IVec S16 32) : Prop :=
  (∀ a x, ((![v146, v147, v16] : Fin 3 → IVec S16 32) a x).toNat < S4x8x2048.size a) ∧
  (∀ a x, ((![v146, v147, v21] : Fin 3 → IVec S16 32) a x).toNat < S4x8x2048.size a)
theorem k0_idx49_inb : ∀ (v16 : IVec S16 32) (v21 : IVec S16 32) (v146 : IVec S16 32) (v147 : IVec S16 32) (k0_hw27 : k0_chk27 v16 v21 v146 v147), ∀ a x, ((![v146, v147, v16] : Fin 3 → IVec S16 32) a x).toNat < S4x8x2048.size a := fun v16 v21 v146 v147 k0_hw27 => k0_hw27.1
theorem k0_idx50_inb : ∀ (v16 : IVec S16 32) (v21 : IVec S16 32) (v146 : IVec S16 32) (v147 : IVec S16 32) (k0_hw27 : k0_chk27 v16 v21 v146 v147), ∀ a x, ((![v146, v147, v21] : Fin 3 → IVec S16 32) a x).toNat < S4x8x2048.size a := fun v16 v21 v146 v147 k0_hw27 => k0_hw27.2

def k0_chk28 (v16 : IVec S16 32) (v21 : IVec S16 32) (v146 : IVec S16 32) (v152 : IVec S16 32) : Prop :=
  (∀ a x, ((![v146, v152, v16] : Fin 3 → IVec S16 32) a x).toNat < S4x8x2048.size a) ∧
  (∀ a x, ((![v146, v152, v21] : Fin 3 → IVec S16 32) a x).toNat < S4x8x2048.size a)
theorem k0_idx51_inb : ∀ (v16 : IVec S16 32) (v21 : IVec S16 32) (v146 : IVec S16 32) (v152 : IVec S16 32) (k0_hw28 : k0_chk28 v16 v21 v146 v152), ∀ a x, ((![v146, v152, v16] : Fin 3 → IVec S16 32) a x).toNat < S4x8x2048.size a := fun v16 v21 v146 v152 k0_hw28 => k0_hw28.1
theorem k0_idx52_inb : ∀ (v16 : IVec S16 32) (v21 : IVec S16 32) (v146 : IVec S16 32) (v152 : IVec S16 32) (k0_hw28 : k0_chk28 v16 v21 v146 v152), ∀ a x, ((![v146, v152, v21] : Fin 3 → IVec S16 32) a x).toNat < S4x8x2048.size a := fun v16 v21 v146 v152 k0_hw28 => k0_hw28.2

def k0_chk29 (v16 : IVec S16 32) (v21 : IVec S16 32) (v146 : IVec S16 32) (v157 : IVec S16 32) : Prop :=
  (∀ a x, ((![v146, v157, v16] : Fin 3 → IVec S16 32) a x).toNat < S4x8x2048.size a) ∧
  (∀ a x, ((![v146, v157, v21] : Fin 3 → IVec S16 32) a x).toNat < S4x8x2048.size a)
theorem k0_idx53_inb : ∀ (v16 : IVec S16 32) (v21 : IVec S16 32) (v146 : IVec S16 32) (v157 : IVec S16 32) (k0_hw29 : k0_chk29 v16 v21 v146 v157), ∀ a x, ((![v146, v157, v16] : Fin 3 → IVec S16 32) a x).toNat < S4x8x2048.size a := fun v16 v21 v146 v157 k0_hw29 => k0_hw29.1
theorem k0_idx54_inb : ∀ (v16 : IVec S16 32) (v21 : IVec S16 32) (v146 : IVec S16 32) (v157 : IVec S16 32) (k0_hw29 : k0_chk29 v16 v21 v146 v157), ∀ a x, ((![v146, v157, v21] : Fin 3 → IVec S16 32) a x).toNat < S4x8x2048.size a := fun v16 v21 v146 v157 k0_hw29 => k0_hw29.2

def k0_chk30 (v16 : IVec S16 32) (v21 : IVec S16 32) (v146 : IVec S16 32) (v162 : IVec S16 32) : Prop :=
  (∀ a x, ((![v146, v162, v16] : Fin 3 → IVec S16 32) a x).toNat < S4x8x2048.size a) ∧
  (∀ a x, ((![v146, v162, v21] : Fin 3 → IVec S16 32) a x).toNat < S4x8x2048.size a)
theorem k0_idx55_inb : ∀ (v16 : IVec S16 32) (v21 : IVec S16 32) (v146 : IVec S16 32) (v162 : IVec S16 32) (k0_hw30 : k0_chk30 v16 v21 v146 v162), ∀ a x, ((![v146, v162, v16] : Fin 3 → IVec S16 32) a x).toNat < S4x8x2048.size a := fun v16 v21 v146 v162 k0_hw30 => k0_hw30.1
theorem k0_idx56_inb : ∀ (v16 : IVec S16 32) (v21 : IVec S16 32) (v146 : IVec S16 32) (v162 : IVec S16 32) (k0_hw30 : k0_chk30 v16 v21 v146 v162), ∀ a x, ((![v146, v162, v21] : Fin 3 → IVec S16 32) a x).toNat < S4x8x2048.size a := fun v16 v21 v146 v162 k0_hw30 => k0_hw30.2

def k0_chk31 (v16 : IVec S16 32) (v21 : IVec S16 32) (v146 : IVec S16 32) (v167 : IVec S16 32) : Prop :=
  (∀ a x, ((![v146, v167, v16] : Fin 3 → IVec S16 32) a x).toNat < S4x8x2048.size a) ∧
  (∀ a x, ((![v146, v167, v21] : Fin 3 → IVec S16 32) a x).toNat < S4x8x2048.size a)
theorem k0_idx57_inb : ∀ (v16 : IVec S16 32) (v21 : IVec S16 32) (v146 : IVec S16 32) (v167 : IVec S16 32) (k0_hw31 : k0_chk31 v16 v21 v146 v167), ∀ a x, ((![v146, v167, v16] : Fin 3 → IVec S16 32) a x).toNat < S4x8x2048.size a := fun v16 v21 v146 v167 k0_hw31 => k0_hw31.1
theorem k0_idx58_inb : ∀ (v16 : IVec S16 32) (v21 : IVec S16 32) (v146 : IVec S16 32) (v167 : IVec S16 32) (k0_hw31 : k0_chk31 v16 v21 v146 v167), ∀ a x, ((![v146, v167, v21] : Fin 3 → IVec S16 32) a x).toNat < S4x8x2048.size a := fun v16 v21 v146 v167 k0_hw31 => k0_hw31.2

def k0_chk32 (v16 : IVec S16 32) (v21 : IVec S16 32) (v146 : IVec S16 32) (v172 : IVec S16 32) : Prop :=
  (∀ a x, ((![v146, v172, v16] : Fin 3 → IVec S16 32) a x).toNat < S4x8x2048.size a) ∧
  (∀ a x, ((![v146, v172, v21] : Fin 3 → IVec S16 32) a x).toNat < S4x8x2048.size a)
theorem k0_idx59_inb : ∀ (v16 : IVec S16 32) (v21 : IVec S16 32) (v146 : IVec S16 32) (v172 : IVec S16 32) (k0_hw32 : k0_chk32 v16 v21 v146 v172), ∀ a x, ((![v146, v172, v16] : Fin 3 → IVec S16 32) a x).toNat < S4x8x2048.size a := fun v16 v21 v146 v172 k0_hw32 => k0_hw32.1
theorem k0_idx60_inb : ∀ (v16 : IVec S16 32) (v21 : IVec S16 32) (v146 : IVec S16 32) (v172 : IVec S16 32) (k0_hw32 : k0_chk32 v16 v21 v146 v172), ∀ a x, ((![v146, v172, v21] : Fin 3 → IVec S16 32) a x).toNat < S4x8x2048.size a := fun v16 v21 v146 v172 k0_hw32 => k0_hw32.2

def k0_chk33 (v16 : IVec S16 32) (v21 : IVec S16 32) (v146 : IVec S16 32) (v177 : IVec S16 32) : Prop :=
  (∀ a x, ((![v146, v177, v16] : Fin 3 → IVec S16 32) a x).toNat < S4x8x2048.size a) ∧
  (∀ a x, ((![v146, v177, v21] : Fin 3 → IVec S16 32) a x).toNat < S4x8x2048.size a)
theorem k0_idx61_inb : ∀ (v16 : IVec S16 32) (v21 : IVec S16 32) (v146 : IVec S16 32) (v177 : IVec S16 32) (k0_hw33 : k0_chk33 v16 v21 v146 v177), ∀ a x, ((![v146, v177, v16] : Fin 3 → IVec S16 32) a x).toNat < S4x8x2048.size a := fun v16 v21 v146 v177 k0_hw33 => k0_hw33.1
theorem k0_idx62_inb : ∀ (v16 : IVec S16 32) (v21 : IVec S16 32) (v146 : IVec S16 32) (v177 : IVec S16 32) (k0_hw33 : k0_chk33 v16 v21 v146 v177), ∀ a x, ((![v146, v177, v21] : Fin 3 → IVec S16 32) a x).toNat < S4x8x2048.size a := fun v16 v21 v146 v177 k0_hw33 => k0_hw33.2

def k0_chk34 (v16 : IVec S16 32) (v21 : IVec S16 32) (v146 : IVec S16 32) (v182 : IVec S16 32) : Prop :=
  (∀ a x, ((![v146, v182, v16] : Fin 3 → IVec S16 32) a x).toNat < S4x8x2048.size a) ∧
  (∀ a x, ((![v146, v182, v21] : Fin 3 → IVec S16 32) a x).toNat < S4x8x2048.size a)
theorem k0_idx63_inb : ∀ (v16 : IVec S16 32) (v21 : IVec S16 32) (v146 : IVec S16 32) (v182 : IVec S16 32) (k0_hw34 : k0_chk34 v16 v21 v146 v182), ∀ a x, ((![v146, v182, v16] : Fin 3 → IVec S16 32) a x).toNat < S4x8x2048.size a := fun v16 v21 v146 v182 k0_hw34 => k0_hw34.1
theorem k0_idx64_inb : ∀ (v16 : IVec S16 32) (v21 : IVec S16 32) (v146 : IVec S16 32) (v182 : IVec S16 32) (k0_hw34 : k0_chk34 v16 v21 v146 v182), ∀ a x, ((![v146, v182, v21] : Fin 3 → IVec S16 32) a x).toNat < S4x8x2048.size a := fun v16 v21 v146 v182 k0_hw34 => k0_hw34.2
def k0_off37 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v7 : BitVec 32 := Scalar.muli arg12 c16_i32
  let v194 : Index := Scalar.indexCast v7
  ![v194.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 61
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x32, .f32⟩
  | .hbm, ⟨23, _⟩ => ⟨S16384x32, .i1⟩
  | .hbm, ⟨24, _⟩ => ⟨S_, .f32⟩
  | .hbm, ⟨25, _⟩ => ⟨S16384x32, .f32⟩
  | .hbm, ⟨26, _⟩ => ⟨S16384x32, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x32, .f32⟩
  | .hbm, ⟨46, _⟩ => ⟨S16384x32, .i1⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst_0 : Ref sig .tc := ⟨.hbm, 55, rfl⟩
abbrev main_v6 : Ref sig .tc := ⟨.hbm, 56, rfl⟩
abbrev main_v7 : Ref sig .tc := ⟨.hbm, 57, rfl⟩
abbrev main_cst_1 : Ref sig .tc := ⟨.hbm, 58, rfl⟩
abbrev main_v8 : Ref sig .tc := ⟨.hbm, 59, rfl⟩
abbrev main_v9 : Ref sig .tc := ⟨.hbm, 60, rfl⟩

abbrev nD : Nat := 1
abbrev τ : Topo := Topo.v7x

variable {F : FTy → Type} [FloatOps F]
-- ==== Proof.Spec.lean ====
/- What the kernel computes, as a function of its four arrays: for each position, the sum of the thirty-two products of
   the row of the first table that the first row number names and the row of the second table that the second row number
   names, added from the left, and of that sum the sigmoid. -/
module

public import proofs.«01_k».proof.Defs
public import proofs.«01_k».proof.Proof.Gen.KernelIdeal
public import proofs.«01_k».proof.Proof.Gen.Pre_in_range
public import Idealize.ShloMosaic.Lib.ReduceAll
public import Idealize.ShloMosaic.Lib.ValueIdxCoords

@[expose] public section

noncomputable section

namespace Cert.Proof.Spec

open Cert.KernelIdeal Cert.KernelIdeal.Gen
open Idealize.ShloMosaic Idealize.ShloMosaic.ValueIdx

variable {F : FTy → Type}

/-- Position `n` of a length-16384 array, taken modulo its length. -/
def pos (n : ℕ) : S16384.Idx := ix1 (⟨n % 16384, Nat.mod_lt _ (by decide)⟩ : Fin 16384)
/-- Position `n` of a length-528 array, taken modulo its length. -/
def at528 (n : ℕ) : S528.Idx := ix1 (⟨n % 528, Nat.mod_lt _ (by decide)⟩ : Fin 528)
/-- Entry `(r, k)` of a table, both taken modulo the table's extents. -/
def entry (r k : ℕ) : S1000000x32.Idx :=
  ix2 (⟨r % 1000000, Nat.mod_lt _ (by decide)⟩ : Fin 1000000) (⟨k % 32, Nat.mod_lt _ (by decide)⟩ : Fin 32)
/-- Entry `(a, b, n)` of a table regrouped by eight columns, its row taken modulo the table's extent. -/
def tabIx (a : Fin 4) (b : Fin 8) (n : ℕ) : S4x8x1000000.Idx :=
  ix3 a b (⟨n % 1000000, Nat.mod_lt _ (by decide)⟩ : Fin 1000000)

/-- A table regrouped by eight columns: entry `(a, b, n)` is row `n`'s entry at column `8 * a + b`. -/
def tabOf (E : S1000000x32.Idx → Elt F .f32) : S4x8x1000000.Idx → Elt F .f32 :=
  fun i => E (entry (i 2).val (8 * (i 0).val + (i 1).val))

variable [FloatOps F]

/-- The sum of the first `n` products of `x` and `y`, added from the left onto zero. -/
def run (x y : ℕ → F .f32) : ℕ → F .f32
  | 0 => Scalar.ofBits .f32 0x00000000#32
  | n + 1 => FloatOps.addf (run x y n) (FloatOps.mulf (x n) (y n))

/-- The sigmoid as the kernel computes it. -/
def sigm (a : F .f32) : F .f32 :=
  FloatOps.divf (Scalar.ofBits .f32 0x3F800000#32)
    (FloatOps.addf (Scalar.ofBits .f32 0x3F800000#32) (FloatOps.exp (FloatOps.subf (Scalar.ofBits .f32 0x00000000#32) a)))

/-- The result array: position `p` holds the sigmoid of the inner product of the two rows named there. -/
def out (u i : S16384.Idx → BitVec 32) (E G : S1000000x32.Idx → F .f32) : S16384.Idx → F .f32 :=
  fun p => sigm (run (fun k => E (entry (u p).toNat k)) (fun k => G (entry (i p).toNat k)) 32)

/-- What the proof asks of the row numbers: each names a row of the tables. -/
def InRange (u : S16384.Idx → BitVec 32) : Prop := ∀ p, (u p).toNat < 1000000

omit [FloatOps F] in
/-- A word at least zero and below a million, both as signed numbers, is below a million as an unsigned one. -/
theorem word_lt (w : BitVec 32) (h0 : IntOp.cmpi .sge w 0#32 = 1#1) (h1 : IntOp.cmpi .slt w 1000000#32 = 1#1) : w.toNat < 1000000 := by
  have ofBool (b : Bool) : BitVec.ofBool b = 1#1 → b = true := by cases b <;> decide
  have h0' : (0#32 : BitVec 32).sle w = true := ofBool _ h0
  have h1' : w.slt 1000000#32 = true := ofBool _ h1
  rw [BitVec.sle_eq_decide, decide_eq_true_eq] at h0'
  rw [BitVec.slt_eq_decide, decide_eq_true_eq] at h1'
  rw [show (0#32 : BitVec 32).toInt = 0 from rfl] at h0'
  rw [show (1000000#32 : BitVec 32).toInt = 1000000 from rfl] at h1'
  rw [BitVec.toInt_eq_toNat_cond] at h0' h1'
  have := w.isLt
  split at h0' <;> omega

/-- The precondition says of both row-number arrays that each entry names a row of the tables. -/
theorem inRange_of_pre (u i : S16384.Idx → BitVec 32) (E G : S1000000x32.Idx → F .f32)
    (h : Cert.Pre_in_range.fn (F := F) u i E G = fun _ => 1#1) : InRange u ∧ InRange i := by
  have key : ∀ p : S16384.Idx, ((IntOp.cmpi .sge (u p) 0#32 = 1#1 ∧ IntOp.cmpi .slt (u p) 1000000#32 = 1#1) ∧ IntOp.cmpi .sge (i p) 0#32 = 1#1)
      ∧ IntOp.cmpi .slt (i p) 1000000#32 = 1#1 := by
    intro p
    have hone := congrFun h (Shape.Idx.first (by decide))
    haveI : Subsingleton Cert.Pre_in_range.S_.Idx := ⟨fun a b => funext fun x => x.elim0⟩
    have e := Host.reduce_andi_all _ _ _ _ _ hone p
    obtain ⟨e1, e4⟩ := IntOp.andi_eq_one.1 e
    obtain ⟨e2, e3⟩ := IntOp.andi_eq_one.1 e1
    obtain ⟨e5, e6⟩ := IntOp.andi_eq_one.1 e2
    exact ⟨⟨⟨e5, e6⟩, e3⟩, e4⟩
  exact ⟨fun p => word_lt _ (key p).1.1.1 (key p).1.1.2, fun p => word_lt _ (key p).1.2 (key p).2⟩

end Cert.Proof.Spec

end
-- ==== Proof.Words.lean ====
/- The integer arithmetic of the kernel's windows: what the seven conditions of each switch say of the row number they
   read, the offset every branch copies from, and the two checks the row numbers pass when they name rows of the tables. -/
module

public import proofs.«01_k».proof.Defs
public import proofs.«01_k».proof.Proof.Gen.KernelIdeal

@[expose] public section

namespace Cert.Proof.Words

open Cert.KernelIdeal Cert.KernelIdeal.Gen
open Idealize.ShloMosaic

/-- The branch number a switch computes from a row number: bits 4 to 6, clamped to 0..7. -/
def cls (v : BitVec 32) : BitVec 32 :=
  Scalar.minsi (Scalar.maxsi (Scalar.andi (Scalar.shrsi v 4#32) 7#32) 0#32) 7#32

/-- A row number's bits 4 to 6 are its quotient by 16 modulo 8. -/
theorem cls_eq (v : BitVec 32) (h : v.toNat < 1000000) : cls v = BitVec.ofNat 32 (v.toNat / 16 % 8) := by
  have h1 : Scalar.andi (Scalar.shrsi v 4#32) 7#32 = BitVec.ofNat 32 (v.toNat / 16 % 8) := by
    apply BitVec.eq_of_toNat_eq
    have hm : v.msb = false := by rw [BitVec.msb_eq_decide]; simp; omega
    have hs : Scalar.shrsi v 4#32 = v.sshiftRight 4 :=
      by show (if (4#32 : BitVec 32).toNat < 32 then v.sshiftRight 4 else IntOp.cornerWord .scalar .shrsi v 4#32) = _; rw [if_pos (by decide)]
    rw [hs]
    show (v.sshiftRight 4 &&& 7#32).toNat = _
    rw [BitVec.toNat_and, BitVec.sshiftRight_eq_of_msb_false hm, BitVec.toNat_ushiftRight, Nat.shiftRight_eq_div_pow, BitVec.toNat_ofNat]
    show v.toNat / 2 ^ 4 &&& (2 ^ 3 - 1) = _
    rw [Nat.and_two_pow_sub_one_eq_mod, BitVec.toNat_ofNat]
    omega
  unfold cls
  rw [h1]
  have h8 : v.toNat / 16 % 8 < 8 := Nat.mod_lt _ (by decide)
  generalize v.toNat / 16 % 8 = r at h8
  interval_cases r <;> decide

/-- A condition on the branch number less `n`, as a condition on the branch number. -/
theorem ne_iff (r n : ℕ) (hr : r < 8) (hn : n < 8) :
    Scalar.cmpi .ne (BitVec.ofNat 32 r - BitVec.ofNat 32 n) 0#32 = 1#1 ↔ r ≠ n := by
  interval_cases r <;> interval_cases n <;> decide

section
variable (v : BitVec 32) (h : v.toNat < 1000000)
include h

/-- What remains of the branch number after `n` subtractions is tested against zero. -/
theorem cond_aux (n : ℕ) (hn : n < 8) (w : BitVec 32) (hw : w = cls v - BitVec.ofNat 32 n) :
    Scalar.cmpi .ne w 0#32 = 1#1 ↔ v.toNat / 16 % 8 ≠ n := by
  rw [hw, cls_eq v h]; exact ne_iff _ n (Nat.mod_lt _ (by decide)) hn

/-- The switch's test 1 says that the row number's class is not 0. -/
theorem cond1 : k0_cond1 v = 1#1 ↔ v.toNat / 16 % 8 ≠ 0 :=
  cond_aux v h 0 (by decide) _ (by show cls v = _; rw [show BitVec.ofNat 32 0 = 0#32 from rfl, BitVec.sub_zero])
/-- The switch's test 2 says that the row number's class is not 1. -/
theorem cond2 : k0_cond2 v = 1#1 ↔ v.toNat / 16 % 8 ≠ 1 := cond_aux v h 1 (by decide) _ rfl
/-- The switch's test 3 says that the row number's class is not 2. -/
theorem cond3 : k0_cond3 v = 1#1 ↔ v.toNat / 16 % 8 ≠ 2 :=
  cond_aux v h 2 (by decide) _ (by show cls v - 1#32 - 1#32 = _; rw [BitVec.sub_sub]; rfl)
/-- The switch's test 4 says that the row number's class is not 3. -/
theorem cond4 : k0_cond4 v = 1#1 ↔ v.toNat / 16 % 8 ≠ 3 :=
  cond_aux v h 3 (by decide) _ (by show cls v - 1#32 - 1#32 - 1#32 = _; simp only [BitVec.sub_sub]; rfl)
/-- The switch's test 5 says that the row number's class is not 4. -/
theorem cond5 : k0_cond5 v = 1#1 ↔ v.toNat / 16 % 8 ≠ 4 :=
  cond_aux v h 4 (by decide) _ (by show cls v - 1#32 - 1#32 - 1#32 - 1#32 = _; simp only [BitVec.sub_sub]; rfl)
/-- The switch's test 6 says that the row number's class is not 5. -/
theorem cond6 : k0_cond6 v = 1#1 ↔ v.toNat / 16 % 8 ≠ 5 :=
  cond_aux v h 5 (by decide) _ (by show cls v - 1#32 - 1#32 - 1#32 - 1#32 - 1#32 = _; simp only [BitVec.sub_sub]; rfl)
/-- The switch's test 7 says that the row number's class is not 6. -/
theorem cond7 : k0_cond7 v = 1#1 ↔ v.toNat / 16 % 8 ≠ 6 :=
  cond_aux v h 6 (by decide) _ (by show cls v - 1#32 - 1#32 - 1#32 - 1#32 - 1#32 - 1#32 = _; simp only [BitVec.sub_sub]; rfl)

omit h in
/-- Clearing the low seven bits rounds down to a multiple of 128. -/
theorem base_toNat : (Scalar.andi v 4294967168#32).toNat = 128 * (v.toNat / 128) := by
  have e : Scalar.andi v 4294967168#32 = (v >>> 7) <<< 7 := by
    apply BitVec.eq_of_getLsbD_eq
    intro i hi
    show (v &&& 4294967168#32).getLsbD i = _
    rw [BitVec.getLsbD_and, BitVec.getLsbD_shiftLeft, BitVec.getLsbD_ushiftRight]
    have : (4294967168#32 : BitVec 32).getLsbD i = decide (7 ≤ i) := by interval_cases i <;> decide
    rw [this]
    by_cases h7 : 7 ≤ i
    · simp [h7, hi, show ¬ i < 7 by omega, show 7 + (i - 7) = i by omega]
    · simp [h7, show i < 7 by omega]
  rw [e, BitVec.toNat_shiftLeft, BitVec.toNat_ushiftRight, Nat.shiftRight_eq_div_pow, Nat.shiftLeft_eq]
  have := v.isLt
  omega

/-- A branch's offset is the start of the sixteen-column window the row number lies in. -/
theorem off_aux (n : ℕ) (hn : n < 8) (hc : v.toNat / 16 % 8 = n) :
    (![0, 0, (Scalar.addi (Scalar.andi v 4294967168#32) (BitVec.ofNat 32 (16 * n))).toNat] : Fin 3 → ℕ)
      = ![0, 0, 16 * (v.toNat / 16)] := by
  have : (Scalar.addi (Scalar.andi v 4294967168#32) (BitVec.ofNat 32 (16 * n))).toNat = 16 * (v.toNat / 16) := by
    show (Scalar.andi v 4294967168#32 + BitVec.ofNat 32 (16 * n)).toNat = _
    rw [BitVec.toNat_add, base_toNat v, BitVec.toNat_ofNat]
    omega
  rw [this]

/-- In class 7 the copy starts at the row number with its low four bits cleared. -/
theorem off4 (hc : v.toNat / 16 % 8 = 7) : k0_off4 v = ![0, 0, 16 * (v.toNat / 16)] := off_aux v h 7 (by decide) hc
/-- In class 6 the copy starts at the row number with its low four bits cleared. -/
theorem off6 (hc : v.toNat / 16 % 8 = 6) : k0_off6 v = ![0, 0, 16 * (v.toNat / 16)] := off_aux v h 6 (by decide) hc
/-- In class 5 the copy starts at the row number with its low four bits cleared. -/
theorem off8 (hc : v.toNat / 16 % 8 = 5) : k0_off8 v = ![0, 0, 16 * (v.toNat / 16)] := off_aux v h 5 (by decide) hc
/-- In class 4 the copy starts at the row number with its low four bits cleared. -/
theorem off10 (hc : v.toNat / 16 % 8 = 4) : k0_off10 v = ![0, 0, 16 * (v.toNat / 16)] := off_aux v h 4 (by decide) hc
/-- In class 3 the copy starts at the row number with its low four bits cleared. -/
theorem off12 (hc : v.toNat / 16 % 8 = 3) : k0_off12 v = ![0, 0, 16 * (v.toNat / 16)] := off_aux v h 3 (by decide) hc
/-- In class 2 the copy starts at the row number with its low four bits cleared. -/
theorem off14 (hc : v.toNat / 16 % 8 = 2) : k0_off14 v = ![0, 0, 16 * (v.toNat / 16)] := off_aux v h 2 (by decide) hc
/-- In class 1 the copy starts at the row number with its low four bits cleared. -/
theorem off16 (hc : v.toNat / 16 % 8 = 1) : k0_off16 v = ![0, 0, 16 * (v.toNat / 16)] := off_aux v h 1 (by decide) hc
/-- In class 0 the copy starts at the row number with its low four bits cleared. -/
theorem off18 (hc : v.toNat / 16 % 8 = 0) : k0_off18 v = ![0, 0, 16 * (v.toNat / 16)] := off_aux v h 0 (by decide) hc

/-- The window of sixteen columns a row number lies in is inside the table. -/
theorem win_inb (o : Fin 3 → ℕ) (ho : o = ![0, 0, 16 * (v.toNat / 16)]) (a : Fin 3) :
    o a + S4x8x16.size a ≤ S4x8x1000000.size a := by
  subst ho
  fin_cases a
  · exact Nat.le_refl 4
  · exact Nat.le_refl 8
  · show 16 * (v.toNat / 16) + 16 ≤ 1000000
    omega

/-- The check after the user's row number: every branch it can take copies a window inside the table. -/
theorem chk1 : k0_chk1 v := by
  have hr : v.toNat / 16 % 8 < 8 := Nat.mod_lt _ (by decide)
  refine ⟨⟨v.toNat / 128, base_toNat v⟩, ?_, ?_, ?_, ?_, ?_, ?_, ?_, ?_⟩ <;>
    simp only [cond1 v h, cond2 v h, cond3 v h, cond4 v h, cond5 v h, cond6 v h, cond7 v h, ne_eq, not_not] <;> intros
  · exact win_inb v h _ (off4 v h (by omega)) _
  · exact win_inb v h _ (off6 v h (by omega)) _
  · exact win_inb v h _ (off8 v h (by omega)) _
  · exact win_inb v h _ (off10 v h (by omega)) _
  · exact win_inb v h _ (off12 v h (by omega)) _
  · exact win_inb v h _ (off14 v h (by omega)) _
  · exact win_inb v h _ (off16 v h (by omega)) _
  · exact win_inb v h _ (off18 v h (by omega)) _

end

/-- The check after the item's row number is the check after the user's, of the item's word. -/
theorem chk2 (v : BitVec 32) (h : v.toNat < 1000000) : k0_chk2 v := chk1 v h

end Cert.Proof.Words
end
-- ==== Proof.Setup.lean ====
/- The launch's set-up: the program as the launch theorem sees it, the resources, the arrays as locations, the rows of the
   result each tile writes, and what the one call's handshakes carry: read shares of the two row-number arrays and of the
   two regrouped tables, and the tile's own rows of the result. -/
module

public import proofs.«01_k».proof.Defs
public import proofs.«01_k».proof.Proof.Spec
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen tiles of each SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's side conditions on the program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The two row-number arrays, the two tables, their regroupings and the result, as locations of device `d`. -/
abbrev uLoc (d : Dev nD) : Loc nD τ sig := (SparseCore.T d).loc main_arg0
abbrev iLoc (d : Dev nD) : Loc nD τ sig := (SparseCore.T d).loc main_arg1
abbrev eLoc (d : Dev nD) : Loc nD τ sig := (SparseCore.T d).loc main_arg2
abbrev gLoc (d : Dev nD) : Loc nD τ sig := (SparseCore.T d).loc main_arg3
abbrev tuLoc (d : Dev nD) : Loc nD τ sig := (SparseCore.T d).loc main_v1
abbrev tiLoc (d : Dev nD) : Loc nD τ sig := (SparseCore.T d).loc main_v3
abbrev oLoc (d : Dev nD) : Loc nD τ sig := (SparseCore.T d).loc main_v4

/-- The positions of the result tile `w` writes: those from `512 * w` up to `512 * (w + 1)`. -/
def rows (w : ℕ) : Finset S16384.Idx := Finset.univ.filter fun p => (p 0).val / 512 = w

/-- The tile number of tile `i` of SparseCore `c`. -/
abbrev wid (c i : ℕ) : ℕ := 2 * i + c

variable [FloatOps F]

/-- What the regrouped tables hold. -/
def TU (d : Dev nD) : S4x8x1000000.Idx → Elt F .f32 := tabOf (m (eLoc d))
def TI (d : Dev nD) : S4x8x1000000.Idx → Elt F .f32 := tabOf (m (gLoc d))
/-- What the result holds at the end. -/
def OUT (d : Dev nD) : S16384.Idx → Elt F .f32 := out (m (uLoc d)) (m (iLoc d)) (m (eLoc d)) (m (gLoc d))

/-- Read shares `q` of the four arrays the tiles read. -/
def ins (d : Dev nD) (q : PosShare TreeShare) : sProp 𝕄 :=
  iprop((uLoc d ↦{q} m (uLoc d)) ∗ (iLoc d ↦{q} m (iLoc d)) ∗ (tuLoc d ↦{q} TU m d) ∗ (tiLoc d ↦{q} TI m d))
/-- The result's rows of tile `w`, holding `f`. -/
def outRow (d : Dev nD) (w : ℕ) (f : Buf (Elt F) (oLoc d)) : sProp 𝕄 := oLoc d ↦[rows w]{fullShare} f

abbrev coreShare (c : Fin 2) : PosShare TreeShare := Transfers.shareTok fullShare 2 c
abbrev tileShare (c : Fin 2) (i : Fin 16) : PosShare TreeShare := Transfers.shareTok (coreShare c) 16 i

instance ins_storable (d : Dev nD) (q : PosShare TreeShare) : BI.Storable (upEmb : UEmb _ 𝕄) (ins m d q) := by unfold ins; infer_instance
instance outRow_storable (d : Dev nD) (w : ℕ) (f : Buf (Elt F) (oLoc d)) : BI.Storable (upEmb : UEmb _ 𝕄) (outRow d w f) := by unfold outRow; infer_instance

/-- What a SparseCore is handed, what it hands back, what a tile is handed, what it hands back. -/
def stP (d : Dev nD) (c : Fin 2) : sProp 𝕄 :=
  iprop(ins m d (coreShare c) ∗ bigSep Finset.univ fun i : Fin 16 => outRow d (wid c.val i.val) (m (oLoc d)))
def dnP (d : Dev nD) (c : Fin 2) : sProp 𝕄 := bigSep Finset.univ fun i : Fin 16 => outRow d (wid c.val i.val) (OUT m d)
def goP (d : Dev nD) (c : Fin 2) (i : Fin 16) : sProp 𝕄 := iprop(ins m d (tileShare c i) ∗ outRow d (wid c.val i.val) (m (oLoc d)))
def tdP (d : Dev nD) (c : Fin 2) (i : Fin 16) : sProp 𝕄 := outRow d (wid c.val i.val) (OUT m d)

instance stP_storable (d : Dev nD) (c : Fin 2) : BI.Storable (upEmb : UEmb _ 𝕄) (stP m d c) := by unfold stP; infer_instance
instance dnP_storable (d : Dev nD) (c : Fin 2) : BI.Storable (upEmb : UEmb _ 𝕄) (dnP m d c) := by unfold dnP; infer_instance
instance goP_storable (d : Dev nD) (c : Fin 2) (i : Fin 16) : BI.Storable (upEmb : UEmb _ 𝕄) (goP m d c i) := by unfold goP; infer_instance
instance tdP_storable (d : Dev nD) (c : Fin 2) (i : Fin 16) : BI.Storable (upEmb : UEmb _ 𝕄) (tdP m d c i) := by unfold tdP; infer_instance

/-- The one call's payloads. -/
def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with | 0 => stP_storable m d (Fin.cast nCore_zero c)
  dn q d c := match q with | 0 => dnP_storable m d (Fin.cast nCore_zero c)
  go q d c i := match q with | 0 => goP_storable m d (Fin.cast nCore_zero c) (Fin.cast nSub_zero i)
  td q d c i := match q with | 0 => tdP_storable m d (Fin.cast nCore_zero c) (Fin.cast nSub_zero i)

/-- Two families of resources held together are the family of the pairs. -/
theorem bigSep_pair {I : Type} (s : Finset I) (A B : I → sProp 𝕄) :
    (bigSep s fun i => iprop(A i ∗ B i)) = iprop(bigSep s A ∗ bigSep s B) := bigSep_sep' s A B

/-- Read shares of the four arrays split into one for each of `n`, the rest kept. -/
theorem ins_split (d : Dev nD) (q : PosShare TreeShare) (n : ℕ) :
    ins m d q ⊢ iprop(ins m d (Transfers.shareDrop q n) ∗ bigSep Finset.univ fun i : Fin n => ins m d (Transfers.shareTok q n i)) := by
  unfold ins
  rw [bigSep_pair, bigSep_pair, bigSep_pair]
  iintro ⟨H1, H2, H3, H4⟩
  ihave H1' := (Transfers.pointsTo_toks_split q n) $$ H1
  ihave H2' := (Transfers.pointsTo_toks_split q n) $$ H2
  ihave H3' := (Transfers.pointsTo_toks_split q n) $$ H3
  ihave H4' := (Transfers.pointsTo_toks_split q n) $$ H4
  icases H1' with ⟨A1, B1⟩
  icases H2' with ⟨A2, B2⟩
  icases H3' with ⟨A3, B3⟩
  icases H4' with ⟨A4, B4⟩
  isplitl [A1 A2 A3 A4]
  · isplitl [A1]; · iexact A1
    isplitl [A2]; · iexact A2
    isplitl [A3]; · iexact A3
    iexact A4
  isplitl [B1]; · iexact B1
  isplitl [B2]; · iexact B2
  isplitl [B3]; · iexact B3
  iexact B4

/-- What a SparseCore is handed splits into what its tiles are handed, and what they hand back is what it hands back. -/
theorem vecSplit : (K (F := F)).VecSplit' (P m) 0 := by
  intro d c
  show stP m d (Fin.cast nCore_zero c) ⊢ |={Set.univ}=> iprop(
      (bigSep Finset.univ fun i : Fin 16 => goP m d (Fin.cast nCore_zero c) i)
      ∗ ((bigSep Finset.univ fun i : Fin 16 => tdP m d (Fin.cast nCore_zero c) i) -∗ dnP m d (Fin.cast nCore_zero c)))
  generalize Fin.cast nCore_zero c = c'
  unfold stP goP tdP dnP
  rw [bigSep_pair]
  iintro ⟨Hi, Ho⟩
  ihave Hi' := (ins_split m d (coreShare c') 16) $$ Hi
  icases Hi' with ⟨-, Hi⟩
  imodintro
  isplitl [Hi Ho]
  · isplitl [Hi]; · iexact Hi
    iexact Ho
  iintro H
  iexact H

end Cert.Proof.Tiles

end
-- ==== Proof.Issue.lean ====
/- One copy of a tile: sixteen columns of a regrouped table into its block of the tile's window, with the fact the block
   then carries. -/
module

public import proofs.«01_k».proof.Proof.Setup
public import Idealize.ShloMosaic.Lib.ViewIndex
public import Idealize.ShloMosaic.Lib.Pipeline.ValueKit.Geometry

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

/-! ## The window and its blocks -/

abbrev win : Memref sig .scVector .vmem S4x8x2048 .f32 := Memref.whole cc0_scratch2
abbrev tuM : Memref sig .scVector .hbm S4x8x1000000 .f32 := Memref.whole main_v1_scv
abbrev tiM : Memref sig .scVector .hbm S4x8x1000000 .f32 := Memref.whole main_v3_scv
abbrev usM : Memref sig .scVector .vmem S528 .i32 := Memref.whole cc0_scratch0
abbrev isM : Memref sig .scVector .vmem S528 .i32 := Memref.whole cc0_scratch1

/-- The window's columns `64 b … 64 b + 63`: the block transfer `b` writes into. -/
def blk (b : ℕ) : Finset S4x8x2048.Idx := Finset.univ.filter fun i => (i 2).val / 64 = b

/-- A lane is window `b`'s when its number over sixty-four is `b`. -/
theorem mem_blk (b : ℕ) (i : S4x8x2048.Idx) : i ∈ blk b ↔ (i 2).val / 64 = b := by simp [blk]

/-- Columns `64 b … 64 b + 15` of `g` are the sixteen columns of the table `T` among which `v`'s lies. -/
def WinFact (T : S4x8x1000000.Idx → Elt F .f32) (v : BitVec 32) (b : ℕ) (g : S4x8x2048.Idx → Elt F .f32) : Prop :=
  ∀ (i : S4x8x2048.Idx) (j : ℕ), j < 16 → (i 2).val = 64 * b + j → g i = T (tabIx (i 0) (i 1) (16 * (v.toNat / 16) + j))

/-- What a window holds depends on its own lanes alone. -/
theorem WinFact.congr {T : S4x8x1000000.Idx → Elt F .f32} {v : BitVec 32} {b : ℕ} {g g' : S4x8x2048.Idx → Elt F .f32}
    (h : WinFact T v b g) (e : ∀ i ∈ blk b, g' i = g i) : WinFact T v b g' := fun i j hj hi =>
  (e i ((mem_blk b i).mpr (by omega))).trans (h i j hj hi)

section Tile

variable (d : Dev nD) (c : Fin τ.nSC) (s : Fin τ.nSub)

/-- The bytes' credit of one copy. -/
abbrev NN : ℕ := (cc0_scratch2 : Ref sig .scVector).dmaCredit S4x8x16 .f32

/-- A window's copy pays a positive amount. -/
theorem NN_pos : 0 < NN := View.dmaCredit_pos (View.slice (View.whole cc0_scratch2) (Rect.unit (s := S4x8x2048) ![0, 0, 0] S4x8x16.size (by decide))) (by decide)

section One

variable [FloatOps F] [∀ e, Nonempty (Elt F e)]

/-- One copy of sixteen columns of a table into block `b`'s first sixteen columns: afterwards the core still holds a
    share of the table, and the batch counts one copy more. -/
theorem issue_one (src : Memref sig .scVector .hbm S4x8x1000000 .f32) {q : PosShare TreeShare}
    {T' : Buf (Elt F) (src.view.loc (V d c s))} {T : S4x8x1000000.Idx → Elt F .f32} (hT : src.view.read (Elt F) T' = T)
    (v : BitVec 32) (hv : v.toNat < 1000000) {off offd : Fin 3 → ℕ} {inb inbd}
    (hoff : off = ![0, 0, 16 * (v.toNat / 16)]) {b : ℕ} (hb : b < 32) (hoffd : offd = ![0, 0, 64 * b])
    {Dl : Fin 32 → sProp 𝕄}
    (hD : ∀ g, WinFact T v b g → (((V d c s).loc cc0_scratch2 ↦[blk b]{fullShare} g : sProp 𝕄)) ⊢ Dl ⟨b, hb⟩)
    {fw : Buf (Elt F) ((V d c s).loc cc0_scratch2)} {h1 h2 h3} {α : Type} {k : PUnit → Prog (TpuEff nD τ sig (Elt F) Λ₀ (V d c s).2) α}
    {Q : α → sProp 𝕄} :
    iprop((src.view.loc (V d c s) ↦{q} T') ∗ ((V d c s).loc cc0_scratch2 ↦[blk b]{fullShare} fw)
        ∗ Batch EC (V d c s) (.dma cc0_scratch4.sem) none NN Dl b 0)
      ⊢ iprop(((∃ q', src.view.loc (V d c s) ↦{q'} T') ∗ Batch EC (V d c s) (.dma cc0_scratch4.sem) none NN Dl (b + 1) 0
            -∗ wp frame (wpE (defs₀ (F := F)) 𝒱₀ (V d c s) none) Set.univ (k ⟨⟩) Q)
        -∗ wp frame (wpE (defs₀ (F := F)) 𝒱₀ (V d c s) none) Set.univ
          (.op (.enqueueDma (src.slice (Rect.unit (s := S4x8x1000000) off S4x8x16.size inb) (fun _ => rfl))
            (.here (win.slice (Rect.unit (s := S4x8x2048) offd S4x8x16.size inbd) (fun _ => rfl))) (.dma cc0_scratch4.sem) h1 h2 h3) k) Q) := by
  have hsub : (src.slice (Rect.unit (s := S4x8x1000000) off S4x8x16.size inb) (fun _ => rfl)).view.set ⊆ Finset.univ := Finset.subset_univ _
  iintro ⟨HT, HW, HB⟩ Hk
  ihave HT2 := ((pointsTo_share (PosShare.mem_left_op_right q)).1) $$ HT
  icases HT2 with ⟨HTl, HTr⟩
  ihave HTs := ((pointsTo_split_subset hsub).1) $$ HTr
  icases HTs with ⟨HTs, -⟩
  iapply (wp_dmaBatch EC 𝒱₀ (V d c s) none (src := src.slice (Rect.unit (s := S4x8x1000000) off S4x8x16.size inb) (fun _ => rfl))
    (dst := win.slice (Rect.unit (s := S4x8x2048) offd S4x8x16.size inbd) (fun _ => rfl)) (fs := T') (fd := fw) (Sd := blk b)
    none NN rfl ?_ hb (Nat.zero_le _) ?_) $$ [HTs HW HB]
  · intro i hi
    obtain ⟨x, rfl⟩ := View.exists_of_mem_set_slice hi
    have h2 : (((Rect.unit (s := S4x8x2048) offd S4x8x16.size inbd).emb x 2 : Fin _) : ℕ) = offd 2 + (x 2).val :=
      ValueKit.rect_emb_unit_val _ _ _ _ _
    have hx : (x 2).val < 16 := (x 2).isLt
    have h3 : offd 2 = 64 * b := congrFun hoffd 2
    refine (mem_blk b _).mpr ?_
    change (((Rect.unit (s := S4x8x2048) offd S4x8x16.size inbd).emb x 2 : Fin _) : ℕ) / 64 = b
    omega
  · refine sep_elim_left.trans (hD _ fun i k hk hi => ?_)
    have hi0 : (i 0).val < 4 := (i 0).isLt
    have hi1 : (i 1).val < 8 := (i 1).isLt
    have e1 : i = (win.slice (Rect.unit (s := S4x8x2048) offd S4x8x16.size inbd) (fun _ => rfl)).view.emb
        (ix3 ⟨(i 0).val, hi0⟩ ⟨(i 1).val, hi1⟩ ⟨k, hk⟩ : S4x8x16.Idx) := by
      subst hoffd
      refine funext fun a => Fin.ext ?_
      refine Eq.symm ((ValueKit.view_emb_slice_whole_unit_val cc0_scratch2 _ _ _ _ _).trans ?_)
      match a with
      | ⟨0, _⟩ => exact Nat.zero_add _
      | ⟨1, _⟩ => exact Nat.zero_add _
      | ⟨2, _⟩ => exact hi.symm
    have e2 : (Rect.unit (s := S4x8x1000000) off S4x8x16.size inb).emb (ix3 ⟨(i 0).val, hi0⟩ ⟨(i 1).val, hi1⟩ ⟨k, hk⟩ : S4x8x16.Idx)
        = tabIx (i 0) (i 1) (16 * (v.toNat / 16) + k) := by
      subst hoff
      refine funext fun a => Fin.ext ((ValueKit.rect_emb_unit_val _ _ _ _ _).trans ?_)
      match a with
      | ⟨0, _⟩ => exact Nat.zero_add _
      | ⟨1, _⟩ => exact Nat.zero_add _
      | ⟨2, _⟩ =>
        change 16 * (v.toNat / 16) + k = (16 * (v.toNat / 16) + k) % 1000000
        omega
    rw [← e2, ← hT]
    conv_lhs => rw [e1]
    rw [View.write_emb_of_mem _ _ (Finset.mem_univ _)]
    rfl
  · isplitl [HTs]; · iexact HTs
    isplitl [HW]; · iexact HW
    iexact HB
  iintro HB
  iapply Hk
  isplitl [HTl]; · iexists _; iexact HTl
  iexact HB

end One
end Tile
end Cert.Proof.Tiles
-- ==== Proof.IssueLoop.lean ====
/- The loop that issues a group's thirty-two copies: one trip at a symbolic position. -/
module

public import proofs.«01_k».proof.Proof.Issue

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

abbrev cV (L : grid0.Coords) : Fin τ.nSC := (L 0).castLE hcore0
abbrev jV (L : grid0.Coords) : Fin τ.nSub := (L 1).castLE hsub0

/-- The number of a tile's own, first sixteen and later sixteen, of a group's thirty-two: entry `t`'s row number. -/
def idOf (us is : S528.Idx → Elt F .i32) (t1 t : ℕ) : BitVec 32 :=
  if t % 2 = 0 then us (at528 (16 * t1 + t / 2)) else is (at528 (16 * t1 + t / 2))

/-- The table entry `t` copies from: even ones the first, odd ones the second. -/
def tabSel (A B : S4x8x1000000.Idx → Elt F .f32) (t : ℕ) : S4x8x1000000.Idx → Elt F .f32 := if t % 2 = 0 then A else B

section

variable (d : Dev nD) (L : grid0.Coords) (A B : S4x8x1000000.Idx → Elt F .f32) (us is : S528.Idx → Elt F .i32)

/-- What copy `t` of group `t1` delivers: its block of the window, holding its sixteen columns. -/
def deliv (t1 : ℕ) (t : Fin 32) : sProp 𝕄 :=
  iprop(∃ g : S4x8x2048.Idx → Elt F .f32, ⌜WinFact (tabSel A B t.val) (idOf us is t1 t.val) t.val g⌝
    ∗ ((V d (cV L) (jV L)).loc cc0_scratch2 ↦[blk t.val]{fullShare} g))

instance deliv_storable (t1 : ℕ) (t : Fin 32) : Storable (upEmb : UEmb _ 𝕄) (deliv d L A B us is t1 t) := by unfold deliv; infer_instance

/-- The blocks not yet written, from block `n` on. -/
def rest (fw : S4x8x2048.Idx → Elt F .f32) (n : ℕ) : sProp 𝕄 :=
  bigSep (Finset.univ.filter fun t : Fin 32 => n ≤ t.val) fun t => ((V d (cV L) (jV L)).loc cc0_scratch2 ↦[blk t.val]{fullShare} fw)

/-- The windows still to be issued are the next one and those after it. -/
theorem rest_succ (fw : S4x8x2048.Idx → Elt F .f32) (n : ℕ) (hn : n < 32) :
    rest d L fw n = iprop(((V d (cV L) (jV L)).loc cc0_scratch2 ↦[blk n]{fullShare} fw) ∗ rest d L fw (n + 1)) := by
  unfold rest
  rw [show (Finset.univ.filter fun t : Fin 32 => n ≤ t.val) = insert ⟨n, hn⟩ (Finset.univ.filter fun t : Fin 32 => n + 1 ≤ t.val) by
    ext t; simp only [Finset.mem_filter, Finset.mem_univ, true_and, Finset.mem_insert, Fin.ext_iff]; omega]
  exact SparseCore.bigSep_insert' (by simp)

/-- Some share of each table, and the tile's copies of its row numbers. -/
def tabs : sProp 𝕄 :=
  iprop((∃ q, tuM.view.loc (V d (cV L) (jV L)) ↦{q} A) ∗ (∃ q, tiM.view.loc (V d (cV L) (jV L)) ↦{q} B))
def nums : sProp 𝕄 :=
  iprop((usM.view.loc (V d (cV L) (jV L)) ↦{fullShare} us) ∗ (isM.view.loc (V d (cV L) (jV L)) ↦{fullShare} is))

/-- Before trip `k` of the issuing loop: `2 k` copies issued. -/
def issueInv (fw : S4x8x2048.Idx → Elt F .f32) (t1 k : ℕ) : sProp 𝕄 :=
  iprop((∃ q, tuM.view.loc (V d (cV L) (jV L)) ↦{q} A) ∗ (∃ q, tiM.view.loc (V d (cV L) (jV L)) ↦{q} B)
    ∗ (usM.view.loc (V d (cV L) (jV L)) ↦{fullShare} us) ∗ (isM.view.loc (V d (cV L) (jV L)) ↦{fullShare} is)
    ∗ rest d L fw (2 * k)
    ∗ Batch EC (V d (cV L) (jV L)) (.dma cc0_scratch4.sem) none NN (deliv d L A B us is t1) (2 * k) 0)

/-- The issuing loop's body at one trip. -/
abbrev t2Body [FloatOps F] (v5 : IVec S16 32) (z o : BitVec 32) (t1 : Fin k0_t1_loop.trips) :=
  k0_t2_body (F := F) L (Memref.whole main_arg0_scv) (Memref.isWhole_whole _) (Memref.whole main_arg1_scv) (Memref.isWhole_whole _)
    tuM (Memref.isWhole_whole _) tiM (Memref.isWhole_whole _) (Memref.whole main_v4_scv) (Memref.isWhole_whole _)
    usM (Memref.isWhole_whole _) isM (Memref.isWhole_whole _) win (Memref.isWhole_whole _) (Memref.whole cc0_scratch3) (Memref.isWhole_whole _)
    cc0_scratch4 cc0_scoped0 cc0_scoped1 cc0_scoped2 v5 z o t1

/-- Lane 0 of the sixteen numbers read from position `n` on. -/
theorem first_num0 (f : usM.view.ty.Contents (Elt F)) (n : ℕ) (off) (inb) (hoff : off = ![n]) (h : n < 528) :
    extractAt ![0] (k0_pay3 (F := F) (usM.view.readAt (Elt F) (Rect.unit (s := S528) off S16.size inb).toLoadRect f)) inpos_S1_p0 = f (at528 n) := by
  subst hoff
  refine congrArg f (funext fun a => Fin.ext ?_)
  match a with
  | ⟨0, _⟩ =>
    change n + 1 * (0 + 0) = n % 528
    omega

/-- The same of the second array. -/
theorem first_num1 (f : isM.view.ty.Contents (Elt F)) (n : ℕ) (off) (inb) (hoff : off = ![n]) (h : n < 528) :
    extractAt ![0] (k0_pay4 (F := F) (isM.view.readAt (Elt F) (Rect.unit (s := S528) off S16.size inb).toLoadRect f)) inpos_S1_p0 = f (at528 n) :=
  first_num0 f n off inb hoff h

variable [FloatOps F] [∀ e, Nonempty (Elt F e)]

/-- An even window that holds its first-table columns is one delivered. -/
theorem deliv_even (t1 k : ℕ) (hk : 2 * k < 32) (g : S4x8x2048.Idx → Elt F .f32) (h : WinFact A (us (at528 (16 * t1 + k))) (2 * k) g) :
    ((V d (cV L) (jV L)).loc cc0_scratch2 ↦[blk (2 * k)]{fullShare} g : sProp 𝕄) ⊢ deliv d L A B us is t1 ⟨2 * k, hk⟩ := by
  unfold deliv
  iintro H
  iexists g
  isplitr
  · ipureintro
    simpa only [tabSel, idOf, Nat.mul_mod_right, ↓reduceIte, Nat.mul_div_cancel_left k (show 0 < 2 by omega)] using h
  iexact H

/-- An odd window that holds its second-table columns is one delivered. -/
theorem deliv_odd (t1 k : ℕ) (hk : 2 * k + 1 < 32) (g : S4x8x2048.Idx → Elt F .f32) (h : WinFact B (is (at528 (16 * t1 + k))) (2 * k + 1) g) :
    ((V d (cV L) (jV L)).loc cc0_scratch2 ↦[blk (2 * k + 1)]{fullShare} g : sProp 𝕄) ⊢ deliv d L A B us is t1 ⟨2 * k + 1, hk⟩ := by
  unfold deliv
  iintro H
  iexists g
  isplitr
  · ipureintro
    simpa only [tabSel, idOf, show ¬ (2 * k + 1) % 2 = 0 by omega, ↓reduceIte, show (2 * k + 1) / 2 = k by omega] using h
  iexact H

/-- A trip's last step: what is held makes the invariant of the next trip. -/
theorem fin_t2 (fw : S4x8x2048.Idx → Elt F .f32) (t1 k : ℕ) :
    iprop((∃ q, tuM.view.loc (V d (cV L) (jV L)) ↦{q} A) ∗ (∃ q, tiM.view.loc (V d (cV L) (jV L)) ↦{q} B)
        ∗ (usM.view.loc (V d (cV L) (jV L)) ↦{fullShare} us) ∗ (isM.view.loc (V d (cV L) (jV L)) ↦{fullShare} is)
        ∗ rest d L fw (2 * k + 1 + 1) ∗ Batch EC (V d (cV L) (jV L)) (.dma cc0_scratch4.sem) none NN (deliv d L A B us is t1) (2 * k + 1 + 1) 0)
      ⊢ wp frame (wpE (defs₀ (F := F)) 𝒱₀ (V d (cV L) (jV L)) none) Set.univ (.ret ())
          fun _ => issueInv d L A B us is fw t1 (k + 1) := by
  unfold issueInv
  rw [show 2 * (k + 1) = 2 * k + 1 + 1 by omega, wp_ret]
  exact fupd_intro

set_option maxHeartbeats 4000000 in
/-- One trip: two copies issued, one from each table. -/
theorem t2_step (hus : ∀ n, n < 512 → (us (at528 n)).toNat < 1000000) (his : ∀ n, n < 512 → (is (at528 n)).toNat < 1000000) (v5 : IVec S16 32) (z o : BitVec 32) (t1 : Fin k0_t1_loop.trips) (fw : S4x8x2048.Idx → Elt F .f32)
    (k : Fin k0_t2_loop.trips) (u : Unit) :
    issueInv d L A B us is fw t1.val k.val
      ⊢ wp frame (wpE (defs₀ (F := F)) 𝒱₀ (V d (cV L) (jV L)) none) Set.univ (t2Body L v5 z o t1 k u)
          fun _ => issueInv d L A B us is fw t1.val (k.val + 1) := by
  have ht1 : t1.val < 32 := Nat.lt_of_lt_of_le t1.isLt k0_t1_abs.2.1
  have hk : k.val < 16 := Nat.lt_of_lt_of_le k.isLt k0_t2_abs.2.1
  unfold issueInv
  rw [rest_succ d L fw (2 * k.val) (by omega), rest_succ d L fw (2 * k.val + 1) (by omega),
    show 2 * (k.val + 1) = 2 * k.val + 1 + 1 by omega]
  iintro ⟨⟨%qa, HA⟩, ⟨%qb, HBt⟩, Hus, His, ⟨HW0, HW1, HR⟩, HB⟩
  unfold t2Body k0_t2_body
  simp only [Prog.lift, Prog.bind_op, Prog.bind_ret, Prog.pure_eq_ret]
  iapply (wp_load 𝒱₀ (V d (cV L) (jV L)) none Set.univ (m := usM) (Finset.subset_univ _)) $$ Hus
  iintro Hus
  rw [wp_assume_of 𝒱₀ (V d (cV L) (jV L)) none Set.univ (Words.chk1 _ (by rw [first_num0 us _ _ _ (k0_off2_eq t1 k) (by omega)]; exact hus _ (by omega)))]
  iapply (wp_load 𝒱₀ (V d (cV L) (jV L)) none Set.univ (m := isM) (Finset.subset_univ _)) $$ His
  iintro His
  rw [wp_assume_of 𝒱₀ (V d (cV L) (jV L)) none Set.univ (Words.chk2 _ (by rw [first_num1 is _ _ _ (k0_off2_eq t1 k) (by omega)]; exact his _ (by omega)))]
  generalize hK : (dite (k0_cond8 (extractAt ![0] (k0_pay4 (F := F) _) inpos_S1_p0) = 1#1) _ _ : Prog (TpuEff nD τ sig (Elt F) Λ₀ (.scVector ((L 0).castLE hcore0) ((L 1).castLE hsub0))) Unit) = K2
  have hvu := first_num0 us (16 * t1.val + k.val) _ (k0_off2_inb t1 k) (k0_off2_eq t1 k) (by omega)
  have hvi := first_num1 is (16 * t1.val + k.val) _ (k0_off2_inb t1 k) (k0_off2_eq t1 k) (by omega)
  have hbu : _ < 1000000 := hvu ▸ hus (16 * t1.val + k.val) (by omega)
  have hbi : _ < 1000000 := hvi ▸ his (16 * t1.val + k.val) (by omega)
  have heven := deliv_even d L A B us is t1.val k.val (by omega)
  have hodd := deliv_odd d L A B us is t1.val k.val (by omega)
  rw [← hvu] at heven
  rw [← hvi] at hodd
  have hoff0 : (![0, 0, 128 * k.val] : Fin 3 → ℕ) = ![0, 0, 64 * (2 * k.val)] := by rw [show 64 * (2 * k.val) = 128 * k.val by omega]
  have hoff1 : (![0, 0, 128 * k.val + 64] : Fin 3 → ℕ) = ![0, 0, 64 * (2 * k.val + 1)] := by rw [show 64 * (2 * k.val + 1) = 128 * k.val + 64 by omega]
  ihave Hrest : (iprop((∃ q', tuM.view.loc (V d (cV L) (jV L)) ↦{q'} A)
      ∗ Batch EC (V d (cV L) (jV L)) (.dma cc0_scratch4.sem) none NN (deliv d L A B us is t1) (2 * k.val + 1) 0
      -∗ wp frame (wpE (defs₀ (F := F)) 𝒱₀ (V d (cV L) (jV L)) none) Set.univ K2 fun _ => issueInv d L A B us is fw t1.val (k.val + 1)) : sProp 𝕄) $$ [HBt Hus His HW1 HR]
  · iintro ⟨HA, HB⟩
    subst hK
    rcases (by omega : (extractAt ![0] (k0_pay4 (F := F) (isM.view.readAt (Elt F) (Rect.unit (s := S528) (k0_off2 t1 k) S16.size (k0_off2_inb t1 k)).toLoadRect is)) inpos_S1_p0).toNat / 16 % 8 = 0 ∨ (extractAt ![0] (k0_pay4 (F := F) (isM.view.readAt (Elt F) (Rect.unit (s := S528) (k0_off2 t1 k) S16.size (k0_off2_inb t1 k)).toLoadRect is)) inpos_S1_p0).toNat / 16 % 8 = 1 ∨ (extractAt ![0] (k0_pay4 (F := F) (isM.view.readAt (Elt F) (Rect.unit (s := S528) (k0_off2 t1 k) S16.size (k0_off2_inb t1 k)).toLoadRect is)) inpos_S1_p0).toNat / 16 % 8 = 2 ∨ (extractAt ![0] (k0_pay4 (F := F) (isM.view.readAt (Elt F) (Rect.unit (s := S528) (k0_off2 t1 k) S16.size (k0_off2_inb t1 k)).toLoadRect is)) inpos_S1_p0).toNat / 16 % 8 = 3 ∨ (extractAt ![0] (k0_pay4 (F := F) (isM.view.readAt (Elt F) (Rect.unit (s := S528) (k0_off2 t1 k) S16.size (k0_off2_inb t1 k)).toLoadRect is)) inpos_S1_p0).toNat / 16 % 8 = 4 ∨ (extractAt ![0] (k0_pay4 (F := F) (isM.view.readAt (Elt F) (Rect.unit (s := S528) (k0_off2 t1 k) S16.size (k0_off2_inb t1 k)).toLoadRect is)) inpos_S1_p0).toNat / 16 % 8 = 5 ∨ (extractAt ![0] (k0_pay4 (F := F) (isM.view.readAt (Elt F) (Rect.unit (s := S528) (k0_off2 t1 k) S16.size (k0_off2_inb t1 k)).toLoadRect is)) inpos_S1_p0).toNat / 16 % 8 = 6 ∨ (extractAt ![0] (k0_pay4 (F := F) (isM.view.readAt (Elt F) (Rect.unit (s := S528) (k0_off2 t1 k) S16.size (k0_off2_inb t1 k)).toLoadRect is)) inpos_S1_p0).toNat / 16 % 8 = 7) with hc | hc | hc | hc | hc | hc | hc | hc
    · rw [dif_neg (show ¬ k0_cond8 _ = 1#1 from mt (Words.cond1 _ hbi).mp (by omega))]
      iapply (issue_one d (cV L) (jV L) tiM (T := B) rfl _ hbi (Words.off18 _ hbi hc) (b := (2 * k.val + 1)) (by omega) ((k0_off33_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_neg (show ¬ k0_cond9 _ = 1#1 from mt (Words.cond2 _ hbi).mp (by omega))]
      iapply (issue_one d (cV L) (jV L) tiM (T := B) rfl _ hbi (Words.off16 _ hbi hc) (b := (2 * k.val + 1)) (by omega) ((k0_off31_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_neg (show ¬ k0_cond10 _ = 1#1 from mt (Words.cond3 _ hbi).mp (by omega))]
      iapply (issue_one d (cV L) (jV L) tiM (T := B) rfl _ hbi (Words.off14 _ hbi hc) (b := (2 * k.val + 1)) (by omega) ((k0_off29_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_pos (show k0_cond10 _ = 1#1 from (Words.cond3 _ hbi).mpr (by omega)), dif_neg (show ¬ k0_cond11 _ = 1#1 from mt (Words.cond4 _ hbi).mp (by omega))]
      iapply (issue_one d (cV L) (jV L) tiM (T := B) rfl _ hbi (Words.off12 _ hbi hc) (b := (2 * k.val + 1)) (by omega) ((k0_off27_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_pos (show k0_cond10 _ = 1#1 from (Words.cond3 _ hbi).mpr (by omega)), dif_pos (show k0_cond11 _ = 1#1 from (Words.cond4 _ hbi).mpr (by omega)), dif_neg (show ¬ k0_cond12 _ = 1#1 from mt (Words.cond5 _ hbi).mp (by omega))]
      iapply (issue_one d (cV L) (jV L) tiM (T := B) rfl _ hbi (Words.off10 _ hbi hc) (b := (2 * k.val + 1)) (by omega) ((k0_off25_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_pos (show k0_cond10 _ = 1#1 from (Words.cond3 _ hbi).mpr (by omega)), dif_pos (show k0_cond11 _ = 1#1 from (Words.cond4 _ hbi).mpr (by omega)), dif_pos (show k0_cond12 _ = 1#1 from (Words.cond5 _ hbi).mpr (by omega)), dif_neg (show ¬ k0_cond13 _ = 1#1 from mt (Words.cond6 _ hbi).mp (by omega))]
      iapply (issue_one d (cV L) (jV L) tiM (T := B) rfl _ hbi (Words.off8 _ hbi hc) (b := (2 * k.val + 1)) (by omega) ((k0_off23_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_pos (show k0_cond10 _ = 1#1 from (Words.cond3 _ hbi).mpr (by omega)), dif_pos (show k0_cond11 _ = 1#1 from (Words.cond4 _ hbi).mpr (by omega)), dif_pos (show k0_cond12 _ = 1#1 from (Words.cond5 _ hbi).mpr (by omega)), dif_pos (show k0_cond13 _ = 1#1 from (Words.cond6 _ hbi).mpr (by omega)), dif_neg (show ¬ k0_cond14 _ = 1#1 from mt (Words.cond7 _ hbi).mp (by omega))]
      iapply (issue_one d (cV L) (jV L) tiM (T := B) rfl _ hbi (Words.off6 _ hbi hc) (b := (2 * k.val + 1)) (by omega) ((k0_off21_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
    · rw [dif_pos (show k0_cond8 _ = 1#1 from (Words.cond1 _ hbi).mpr (by omega)), dif_pos (show k0_cond9 _ = 1#1 from (Words.cond2 _ hbi).mpr (by omega)), dif_pos (show k0_cond10 _ = 1#1 from (Words.cond3 _ hbi).mpr (by omega)), dif_pos (show k0_cond11 _ = 1#1 from (Words.cond4 _ hbi).mpr (by omega)), dif_pos (show k0_cond12 _ = 1#1 from (Words.cond5 _ hbi).mpr (by omega)), dif_pos (show k0_cond13 _ = 1#1 from (Words.cond6 _ hbi).mpr (by omega)), dif_pos (show k0_cond14 _ = 1#1 from (Words.cond7 _ hbi).mpr (by omega))]
      iapply (issue_one d (cV L) (jV L) tiM (T := B) rfl _ hbi (Words.off4 _ hbi hc) (b := (2 * k.val + 1)) (by omega) ((k0_off19_eq k).trans (hoff1)) hodd) $$ [HBt HW1 HB]
      · isplitl [HBt]; · iexact HBt
        isplitl [HW1]; · iexact HW1
        iexact HB
      iintro ⟨HBt, HB⟩
      iapply (fin_t2 d L A B us is fw t1.val k.val) $$ [HA HBt Hus His HR HB]
      isplitl [HA]; · iexact HA
      isplitl [HBt]; · iexact HBt
      isplitl [Hus]; · iexact Hus
      isplitl [His]; · iexact His
      isplitl [HR]; · iexact HR
      iexact HB
  rcases (by omega : (extractAt ![0] (k0_pay3 (F := F) (usM.view.readAt (Elt F) (Rect.unit (s := S528) (k0_off2 t1 k) S16.size (k0_off2_inb t1 k)).toLoadRect us)) inpos_S1_p0).toNat / 16 % 8 = 0 ∨ (extractAt ![0] (k0_pay3 (F := F) (usM.view.readAt (Elt F) (Rect.unit (s := S528) (k0_off2 t1 k) S16.size (k0_off2_inb t1 k)).toLoadRect us)) inpos_S1_p0).toNat / 16 % 8 = 1 ∨ (extractAt ![0] (k0_pay3 (F := F) (usM.view.readAt (Elt F) (Rect.unit (s := S528) (k0_off2 t1 k) S16.size (k0_off2_inb t1 k)).toLoadRect us)) inpos_S1_p0).toNat / 16 % 8 = 2 ∨ (extractAt ![0] (k0_pay3 (F := F) (usM.view.readAt (Elt F) (Rect.unit (s := S528) (k0_off2 t1 k) S16.size (k0_off2_inb t1 k)).toLoadRect us)) inpos_S1_p0).toNat / 16 % 8 = 3 ∨ (extractAt ![0] (k0_pay3 (F := F) (usM.view.readAt (Elt F) (Rect.unit (s := S528) (k0_off2 t1 k) S16.size (k0_off2_inb t1 k)).toLoadRect us)) inpos_S1_p0).toNat / 16 % 8 = 4 ∨ (extractAt ![0] (k0_pay3 (F := F) (usM.view.readAt (Elt F) (Rect.unit (s := S528) (k0_off2 t1 k) S16.size (k0_off2_inb t1 k)).toLoadRect us)) inpos_S1_p0).toNat / 16 % 8 = 5 ∨ (extractAt ![0] (k0_pay3 (F := F) (usM.view.readAt (Elt F) (Rect.unit (s := S528) (k0_off2 t1 k) S16.size (k0_off2_inb t1 k)).toLoadRect us)) inpos_S1_p0).toNat / 16 % 8 = 6 ∨ (extractAt ![0] (k0_pay3 (F := F) (usM.view.readAt (Elt F) (Rect.unit (s := S528) (k0_off2 t1 k) S16.size (k0_off2_inb t1 k)).toLoadRect us)) inpos_S1_p0).toNat / 16 % 8 = 7) with hc | hc | hc | hc | hc | hc | hc | hc
  · rw [dif_neg (show ¬ k0_cond1 _ = 1#1 from mt (Words.cond1 _ hbu).mp (by omega))]
    iapply (issue_one d (cV L) (jV L) tuM (T := A) rfl _ hbu (Words.off18 _ hbu hc) (b := (2 * k.val)) (by omega) ((k0_off17_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_neg (show ¬ k0_cond2 _ = 1#1 from mt (Words.cond2 _ hbu).mp (by omega))]
    iapply (issue_one d (cV L) (jV L) tuM (T := A) rfl _ hbu (Words.off16 _ hbu hc) (b := (2 * k.val)) (by omega) ((k0_off15_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_neg (show ¬ k0_cond3 _ = 1#1 from mt (Words.cond3 _ hbu).mp (by omega))]
    iapply (issue_one d (cV L) (jV L) tuM (T := A) rfl _ hbu (Words.off14 _ hbu hc) (b := (2 * k.val)) (by omega) ((k0_off13_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_pos (show k0_cond3 _ = 1#1 from (Words.cond3 _ hbu).mpr (by omega)), dif_neg (show ¬ k0_cond4 _ = 1#1 from mt (Words.cond4 _ hbu).mp (by omega))]
    iapply (issue_one d (cV L) (jV L) tuM (T := A) rfl _ hbu (Words.off12 _ hbu hc) (b := (2 * k.val)) (by omega) ((k0_off11_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_pos (show k0_cond3 _ = 1#1 from (Words.cond3 _ hbu).mpr (by omega)), dif_pos (show k0_cond4 _ = 1#1 from (Words.cond4 _ hbu).mpr (by omega)), dif_neg (show ¬ k0_cond5 _ = 1#1 from mt (Words.cond5 _ hbu).mp (by omega))]
    iapply (issue_one d (cV L) (jV L) tuM (T := A) rfl _ hbu (Words.off10 _ hbu hc) (b := (2 * k.val)) (by omega) ((k0_off9_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_pos (show k0_cond3 _ = 1#1 from (Words.cond3 _ hbu).mpr (by omega)), dif_pos (show k0_cond4 _ = 1#1 from (Words.cond4 _ hbu).mpr (by omega)), dif_pos (show k0_cond5 _ = 1#1 from (Words.cond5 _ hbu).mpr (by omega)), dif_neg (show ¬ k0_cond6 _ = 1#1 from mt (Words.cond6 _ hbu).mp (by omega))]
    iapply (issue_one d (cV L) (jV L) tuM (T := A) rfl _ hbu (Words.off8 _ hbu hc) (b := (2 * k.val)) (by omega) ((k0_off7_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_pos (show k0_cond3 _ = 1#1 from (Words.cond3 _ hbu).mpr (by omega)), dif_pos (show k0_cond4 _ = 1#1 from (Words.cond4 _ hbu).mpr (by omega)), dif_pos (show k0_cond5 _ = 1#1 from (Words.cond5 _ hbu).mpr (by omega)), dif_pos (show k0_cond6 _ = 1#1 from (Words.cond6 _ hbu).mpr (by omega)), dif_neg (show ¬ k0_cond7 _ = 1#1 from mt (Words.cond7 _ hbu).mp (by omega))]
    iapply (issue_one d (cV L) (jV L) tuM (T := A) rfl _ hbu (Words.off6 _ hbu hc) (b := (2 * k.val)) (by omega) ((k0_off5_eq k).trans (hoff0)) heven) $$ [HA HW0 HB]
    · isplitl [HA]; · iexact HA
      isplitl [HW0]; · iexact HW0
      iexact HB
    iexact Hrest
  · rw [dif_pos (show k0_cond1 _ = 1#1 from (Words.cond1 _ hbu).mpr (by omega)), dif_pos (show k0_cond2 _ = 1#1 from (Words.cond2 _ hbu).mpr (by omega)), dif_pos (show k0_cond3 _ = 1#1 from (Words.cond3 _ hbu).mpr (by omega)), dif_pos (show k0_cond4 _ = 1#1 from (Words.cond4 _ hbu).mpr (by omega)), dif_pos (show k0_cond5 _ = 1#1 from (Words.cond5 _ hbu).mpr (by omega)), dif_pos (show k0_cond6 _ = 1#1 from (Words.cond6 _ hbu).mpr (by omega)), dif_pos (show k0_cond7 _ = 1#1 from (Words.cond7 _ hbu).mpr (by omega))]
    iapply (issue_one d (cV L) (jV L) tuM (T := A) rfl _ hbu (Words.off4 _ hbu hc) (b := (2 * k.val)) (by omega) ((k0_off3_eq k).trans (hoff0)) heven) $$ [HA HW0 HB]
    · isplitl [HA]; · iexact HA
      isplitl [HW0]; · iexact HW0
      iexact HB
    iexact Hrest
end
end Cert.Proof.Tiles
-- ==== Proof.Drain.lean ====
/- The loop that waits for a group's thirty-two copies, and the two loops together: from the window at any contents to the
   window holding every copy's columns. -/
module

public import proofs.«01_k».proof.Proof.IssueLoop

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section

variable (d : Dev nD) (L : grid0.Coords) (A B : S4x8x1000000.Idx → Elt F .f32) (us is : S528.Idx → Elt F .i32)

/-- The waits a tile has recorded: those it came with, and its own. -/
def waits (O : CellTallies nD τ sig (HIx 1)) (W : Waits sig (HIx 1)) : sProp 𝕄 :=
  iprop(∃ W', ⌜∀ p ∈ W', p ∈ W ∨ p.2 = none⌝ ∗ owes (V d (cV L) (jV L)) O W')

/-- Every copy of group `t1` lies in the window. -/
def AllIn (t1 : ℕ) (g : S4x8x2048.Idx → Elt F .f32) : Prop :=
  ∀ t, t < 32 → WinFact (tabSel A B t) (idOf us is t1 t) t g

/-- Two windows' lanes are apart. -/
theorem blk_disjoint {t t' : ℕ} (h : t ≠ t') : Disjoint (blk t) (blk t') :=
  Finset.disjoint_left.mpr fun i hi hi' => h (((mem_blk t i).mp hi).symm.trans ((mem_blk t' i).mp hi'))

/-- The thirty-two windows' lanes are the whole buffer. -/
theorem blk_union : (Finset.univ : Finset (Fin 32)).biUnion (fun t => blk t.val) = (Finset.univ : Finset S4x8x2048.Idx) := by
  refine Finset.eq_univ_iff_forall.mpr fun i => Finset.mem_biUnion.mpr ?_
  have h : (i 2).val < 2048 := (i 2).isLt
  exact ⟨⟨(i 2).val / 64, by omega⟩, Finset.mem_univ _, (mem_blk _ i).mpr rfl⟩

/-- The window whole is its thirty-two blocks. -/
theorem win_blocks (fw : S4x8x2048.Idx → Elt F .f32) :
    ((V d (cV L) (jV L)).loc cc0_scratch2 ↦{fullShare} fw : sProp 𝕄) = rest d L fw 0 := by
  unfold rest
  rw [show (Finset.univ.filter fun t : Fin 32 => 0 ≤ t.val) = Finset.univ by ext; simp,
    ← pointsTo_biUnion (ℓ := (V d (cV L) (jV L)).loc cc0_scratch2) Finset.univ (fun t : Fin 32 => blk t.val)
      (fun t _ t' _ h => blk_disjoint fun e => h (Fin.ext e)), blk_union]

/-- Delivered blocks join. -/
theorem deliv_join (t1 : ℕ) (f₀ : S4x8x2048.Idx → Elt F .f32) (R : Finset (Fin 32)) :
    bigSep R (deliv d L A B us is t1)
      ⊢ iprop(∃ g : S4x8x2048.Idx → Elt F .f32, ⌜∀ t ∈ R, WinFact (tabSel A B t.val) (idOf us is t1 t.val) t.val g⌝
          ∗ ((V d (cV L) (jV L)).loc cc0_scratch2 ↦[R.biUnion fun t => blk t.val]{fullShare} g)) := by
  classical
  induction R using Finset.induction_on with
  | empty =>
    iintro -
    iexists f₀
    isplitr; · ipureintro; exact fun t ht => absurd ht (Finset.notMem_empty t)
    rw [Finset.biUnion_empty, pointsTo_empty]
    iempintro
  | insert t R ht ih =>
    rw [SparseCore.bigSep_insert' ht, Finset.biUnion_insert]
    iintro ⟨H1, HS⟩
    ihave HS := ih $$ HS
    icases HS with ⟨%g, %hg, HS⟩
    unfold deliv
    icases H1 with ⟨%g1, %h1, H1⟩
    have hd : Disjoint (blk t.val) (R.biUnion fun t => blk t.val) :=
      (Finset.disjoint_biUnion_right _ _ _).mpr fun t' ht' => blk_disjoint fun e => ht (Fin.ext e ▸ ht')
    ihave HJ := (pointsTo_join (ℓ := (V d (cV L) (jV L)).loc cc0_scratch2) hd) $$ [H1 HS]
    · isplitl [H1]; · iexact H1
      iexact HS
    iexists ((R.biUnion fun t => blk t.val).piecewise g g1 : S4x8x2048.Idx → Elt F .f32)
    isplitr
    · ipureintro
      intro t' ht'
      rcases Finset.mem_insert.mp ht' with rfl | ht'
      · exact h1.congr fun i hi => Finset.piecewise_eq_of_notMem _ _ _ (Finset.disjoint_left.mp hd hi)
      · exact (hg t' ht').congr fun i hi => Finset.piecewise_eq_of_mem _ _ _ (Finset.mem_biUnion.mpr ⟨t', ht', hi⟩)
    iexact HJ

/-- The issuing loop has sixteen trips. -/
theorem trips2 : k0_t2_loop.trips = 16 := by decide +kernel
/-- The waiting loop has sixteen trips. -/
theorem trips3 : k0_t3_loop.trips = 16 := by decide +kernel

/-- Before trip `k` of the waiting loop: `2 k` copies consumed, and after the last every delivery and the semaphore back
    at zero. -/
def drainInv (O : CellTallies nD τ sig (HIx 1)) (W : Waits sig (HIx 1)) (t1 k : ℕ) : sProp 𝕄 :=
  iprop(MayWaits (V d (cV L) (jV L)) none O ∗ waits d L O W
    ∗ (if k < 16 then Batch EC (V d (cV L) (jV L)) (.dma cc0_scratch4.sem) none NN (deliv d L A B us is t1) 32 (2 * k * NN)
       else iprop(bigSep Finset.univ (deliv d L A B us is t1) ∗ semVal (V d (cV L) (jV L), .dma cc0_scratch4.sem) 0)))

variable [FloatOps F] [∀ e, Nonempty (Elt F e)]

/-- The waiting loop's body at one trip. -/
abbrev t3Body (v5 : IVec S16 32) (z o : BitVec 32) (t1 : Fin k0_t1_loop.trips) :=
  k0_t3_body (F := F) L (Memref.whole main_arg0_scv) (Memref.isWhole_whole _) (Memref.whole main_arg1_scv) (Memref.isWhole_whole _)
    tuM (Memref.isWhole_whole _) tiM (Memref.isWhole_whole _) (Memref.whole main_v4_scv) (Memref.isWhole_whole _)
    usM (Memref.isWhole_whole _) isM (Memref.isWhole_whole _) win (Memref.isWhole_whole _) (Memref.whole cc0_scratch3) (Memref.isWhole_whole _)
    cc0_scratch4 cc0_scoped0 cc0_scoped1 cc0_scoped2 v5 z o t1

/-- A wait of the kernel's own beside the recorded ones leaves each of them an old one or one of the kernel's own. -/
theorem waits_insert {W W' : Waits sig (HIx 1)} (h : ∀ p ∈ W', p ∈ W ∨ p.2 = none) (s : SemLoc sig) :
    ∀ p ∈ insert (s, (none : HIx 1)) W', p ∈ W ∨ p.2 = none := fun p hp => by
  rcases Finset.mem_insert.mp hp with rfl | hp
  · exact .inr rfl
  · exact h p hp

/-- One trip: two waits. -/
theorem t3_step (O : CellTallies nD τ sig (HIx 1)) (W : Waits sig (HIx 1)) (v5 : IVec S16 32) (z o : BitVec 32) (t1 : Fin k0_t1_loop.trips)
    (k : Fin k0_t3_loop.trips) (u : Unit) :
    drainInv d L A B us is O W t1.val k.val
      ⊢ wp frame (wpE (defs₀ (F := F)) 𝒱₀ (V d (cV L) (jV L)) none) Set.univ (t3Body L v5 z o t1 k u)
          fun _ => drainInv d L A B us is O W t1.val (k.val + 1) := by
  have hk : k.val < 16 := Nat.lt_of_lt_of_le k.isLt k0_t3_abs.2.1
  have hN := NN_pos
  have hu1 : 2 * k.val * NN + NN < NN * 32 := by
    have : (2 * k.val + 1) * NN < 32 * NN := Nat.mul_lt_mul_of_pos_right (by omega) hN
    linarith
  have hu2 : k.val + 1 < 16 → 2 * k.val * NN + NN + NN < NN * 32 := fun h => by
    have : (2 * k.val + 2) * NN < 32 * NN := Nat.mul_lt_mul_of_pos_right (by omega) hN
    linarith
  unfold drainInv waits
  rw [if_pos hk]
  iintro ⟨#HM, ⟨%W1, %hW1, HO⟩, HB⟩
  unfold t3Body k0_t3_body
  simp only [Prog.lift, Prog.bind_op, Prog.bind_ret, Prog.pure_eq_ret]
  ihave HM1 := (MayWaits.elim (SemLoc.dma cc0_scratch4.sem)) $$ HM
  iapply (wp_waitBatchO EC 𝒱₀ (V d (cV L) (jV L)) none none (N := NN) rfl (u := 2 * k.val * NN) (n := 32) hu1) $$ [HB HO HM1]
  · isplitl [HB]; · iexact HB
    isplitl [HO]; · iexact HO
    iexact HM1
  iintro ⟨HB, HO⟩
  have hW2 := waits_insert (W := W) (W' := W1) hW1 (SemLoc.dma cc0_scratch4.sem)
  ihave HM1 := (MayWaits.elim (SemLoc.dma cc0_scratch4.sem)) $$ HM
  by_cases hl : k.val + 1 < 16
  · iapply (wp_waitBatchO EC 𝒱₀ (V d (cV L) (jV L)) none none (N := NN) rfl (u := 2 * k.val * NN + NN) (n := 32) (hu2 hl)) $$ [HB HO HM1]
    · isplitl [HB]; · iexact HB
      isplitl [HO]; · iexact HO
      iexact HM1
    iintro ⟨HB, HO⟩
    rw [if_pos hl, wp_ret]
    imodintro
    isplitr; · iexact HM
    isplitl [HO]
    · iexists insert (SemLoc.dma cc0_scratch4.sem, none) (insert (SemLoc.dma cc0_scratch4.sem, none) W1)
      isplitr; · ipureintro; exact waits_insert hW2 _
      iexact HO
    rw [show 2 * (k.val + 1) * NN = 2 * k.val * NN + NN + NN by ring]
    iexact HB
  · iapply (wp_waitBatchLastO EC 𝒱₀ (V d (cV L) (jV L)) none none (N := NN) rfl NN_pos (u := 2 * k.val * NN + NN) (n := 32)
      (by rw [show k.val = 15 by omega]; ring)) $$ [HB HO HM1]
    · isplitl [HB]; · iexact HB
      isplitl [HO]; · iexact HO
      iexact HM1
    iintro ⟨HD, HS, HO⟩
    rw [if_neg hl, wp_ret]
    imodintro
    isplitr; · iexact HM
    isplitl [HO]
    · iexists insert (SemLoc.dma cc0_scratch4.sem, none) (insert (SemLoc.dma cc0_scratch4.sem, none) W1)
      isplitr; · ipureintro; exact waits_insert hW2 _
      iexact HO
    isplitl [HD]; · iexact HD
    iexact HS

/-- The two loops: the window ends holding every copy of the group. -/
theorem fetch (hus : ∀ n, n < 512 → (us (at528 n)).toNat < 1000000) (his : ∀ n, n < 512 → (is (at528 n)).toNat < 1000000) (O : CellTallies nD τ sig (HIx 1))
    (W : Waits sig (HIx 1)) (v5 : IVec S16 32) (z o : BitVec 32) (t1 : Fin k0_t1_loop.trips) {α : Type}
    {k : Prog (TpuEff nD τ sig (Elt F) Λ₀ (V d (cV L) (jV L)).2) α} {Q : α → sProp 𝕄} :
    iprop(tabs d L A B ∗ nums d L us is ∗ (∃ fw, (V d (cV L) (jV L)).loc cc0_scratch2 ↦{fullShare} fw)
        ∗ semVal (V d (cV L) (jV L), .dma cc0_scratch4.sem) 0 ∗ MayWaits (V d (cV L) (jV L)) none O ∗ waits d L O W)
      ⊢ iprop((tabs d L A B ∗ nums d L us is ∗ (∃ g, ⌜AllIn A B us is t1.val g⌝ ∗ (V d (cV L) (jV L)).loc cc0_scratch2 ↦{fullShare} g)
            ∗ semVal (V d (cV L) (jV L), .dma cc0_scratch4.sem) 0 ∗ waits d L O W
            -∗ wp frame (wpE (defs₀ (F := F)) 𝒱₀ (V d (cV L) (jV L)) none) Set.univ k Q)
        -∗ wp frame (wpE (defs₀ (F := F)) 𝒱₀ (V d (cV L) (jV L)) none) Set.univ
            (Scf.Loop.for k0_t2_loop k0_t2_ok ⟨⟩ (t2Body L v5 z o t1) >>= fun _ =>
              Scf.Loop.for k0_t3_loop k0_t3_ok ⟨⟩ (t3Body L v5 z o t1) >>= fun _ => k) Q) := by
  unfold tabs nums
  iintro ⟨⟨HA, HBt⟩, ⟨Hus, His⟩, ⟨%fw, HW⟩, HS, #HM, HO⟩ Hk
  imod (batch_alloc' EC (V d (cV L) (jV L)) none NN (deliv d L A B us is t1.val) (E := Set.univ)) $$ HS with HB
  iapply (Scf.wp_for_bind frame (wpE (defs₀ (F := F)) 𝒱₀ (V d (cV L) (jV L)) none) Set.univ _ _ _ k0_t2_ok ⟨⟩ (t2Body L v5 z o t1)
    (fun n _ => issueInv d L A B us is fw t1.val n) (fun n u => t2_step d L A B us is hus his v5 z o t1 fw n u)) $$ [HA HBt Hus His HW HB]
  · unfold issueInv
    isplitl [HA]; · iexact HA
    isplitl [HBt]; · iexact HBt
    isplitl [Hus]; · iexact Hus
    isplitl [His]; · iexact His
    isplitl [HW]; · iapply (Entails.of_eq (win_blocks d L fw)) $$ HW
    iexact HB
  iintro %_ HI
  rw [show Scf.trips k0_t2_loop.lb k0_t2_loop.ub k0_t2_loop.st = 16 from trips2]
  unfold issueInv
  icases HI with ⟨HA, HBt, Hus, His, -, HB⟩
  iapply (Scf.wp_for_bind frame (wpE (defs₀ (F := F)) 𝒱₀ (V d (cV L) (jV L)) none) Set.univ _ _ _ k0_t3_ok ⟨⟩ (t3Body L v5 z o t1)
    (fun n _ => drainInv d L A B us is O W t1.val n) (fun n u => t3_step d L A B us is O W v5 z o t1 n u)) $$ [HO HB]
  · unfold drainInv
    rw [if_pos (by omega)]
    isplitr; · iexact HM
    isplitl [HO]; · iexact HO
    rw [show 2 * 0 * NN = 0 by omega]
    iexact HB
  iintro %_ HI
  rw [show Scf.trips k0_t3_loop.lb k0_t3_loop.ub k0_t3_loop.st = 16 from trips3]
  unfold drainInv
  rw [if_neg (by omega)]
  icases HI with ⟨-, HO, HD, HS⟩
  ihave HJ := (deliv_join d L A B us is t1.val fw Finset.univ) $$ HD
  icases HJ with ⟨%g, %hg, HG⟩
  iapply Hk
  isplitl [HA HBt]
  · isplitl [HA]; · iexact HA
    iexact HBt
  isplitl [Hus His]
  · isplitl [Hus]; · iexact Hus
    iexact His
  isplitl [HG]
  · iexists g
    isplitr; · ipureintro; exact fun t ht => hg ⟨t, ht⟩ (Finset.mem_univ _)
    iapply (Entails.of_eq (by rw [blk_union])) $$ HG
  isplitl [HS]; · iexact HS
  iexact HO

end
end Cert.Proof.Tiles
-- ==== Proof.Group.lean ====
/- The arithmetic of one group: loads of the window at sixteen columns at once, and the running sum of products through the
   pieces the group's body is in. -/
module

public import proofs.«01_k».proof.Proof.Drain

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section

variable (d : Dev nD) (L : grid0.Coords)

/-- A whole window reads as itself. -/
theorem read_win (g : S4x8x2048.Idx → Elt F .f32) : (win.access (.whole S4x8x2048)).read (Elt F) g = g := by
  funext x
  refine congrArg g (funext fun a => Fin.ext ?_)
  change 0 + 1 * (x a).val = (x a).val
  omega

/-- The columns of sixteen lanes. -/
abbrev bc (n : ℕ) : IVec S16 32 := broadcast S16 (BitVec.ofNat 32 n)

/-- The column numbers lie in the window. -/
theorem cols_inb (a b : ℕ) (ha : a < 4) (hb : b < 8) (v : IVec S16 32) (hv : ∀ l, (v l).toNat < 2048) :
    ∀ ax x, ((![bc a, bc b, v] : Fin 3 → IVec S16 32) ax x).toNat < S4x8x2048.size ax := by
  intro ax x
  match ax with
  | ⟨0, _⟩ =>
    change a % 2 ^ 32 < 4
    omega
  | ⟨1, _⟩ =>
    change b % 2 ^ 32 < 8
    omega
  | ⟨2, _⟩ => exact hv x

variable [FloatOps F] [∀ e, Nonempty (Elt F e)]

/-- Running sums lane by lane. -/
def sums (X Y : ℕ → FVec F S16 .f32) (n : ℕ) : FVec F S16 .f32 := fun l => run (fun k => X k l) (fun k => Y k l) n

/-- What the loads of a window read: component `8 a + b` of sixteen rows, at columns `v` and `w`. -/
structure Reads (g : S4x8x2048.Idx → Elt F .f32) (v w : IVec S16 32) (X Y : ℕ → FVec F S16 .f32) : Prop where
  hv : ∀ l, (v l).toNat < 2048
  hw : ∀ l, (w l).toNat < 2048
  hx : ∀ a b, a < 4 → b < 8 → ∀ h, loadIdx (F := F) (e := .f32) g ![bc a, bc b, v] h = X (8 * a + b)
  hy : ∀ a b, a < 4 → b < 8 → ∀ h, loadIdx (F := F) (e := .f32) g ![bc a, bc b, w] h = Y (8 * a + b)

/-- Both indexed loads stay inside the buffer. -/
theorem Reads.chk {g : S4x8x2048.Idx → Elt F .f32} {v w : IVec S16 32} {X Y : ℕ → FVec F S16 .f32} (H : Reads g v w X Y)
    (a b : ℕ) (ha : a < 4) (hb : b < 8) :
    (∀ ax x, ((![bc a, bc b, v] : Fin 3 → IVec S16 32) ax x).toNat < S4x8x2048.size ax) ∧
      (∀ ax x, ((![bc a, bc b, w] : Fin 3 → IVec S16 32) ax x).toNat < S4x8x2048.size ax) :=
  ⟨cols_inb a b ha hb v H.hv, cols_inb a b ha hb w H.hw⟩

/-- One load of sixteen columns of the window, its value given. -/
theorem load_step {g : S4x8x2048.Idx → Elt F .f32} {idxs : Fin 3 → IVec S16 32} {X : FVec F S16 .f32}
    {h : ∀ a x, (idxs a x).toNat < S4x8x2048.size a} (hX : loadIdx (F := F) (e := .f32) g idxs h = X) {hl : win.view.Loads} {α : Type}
    {k : Vec F S16 .f32 → Prog (TpuEff nD τ sig (Elt F) Λ₀ (V d (cV L) (jV L)).2) α} {Q : α → sProp 𝕄} :
    ((V d (cV L) (jV L)).loc cc0_scratch2 ↦{fullShare} g : sProp 𝕄)
      ⊢ iprop((((V d (cV L) (jV L)).loc cc0_scratch2 ↦{fullShare} g) -∗ wp frame (wpE (defs₀ (F := F)) 𝒱₀ (V d (cV L) (jV L)) none) Set.univ (k X) Q)
        -∗ wp frame (wpE (defs₀ (F := F)) 𝒱₀ (V d (cV L) (jV L)) none) Set.univ (SparseCore.vectorLoadIdx win idxs h hl >>= k) Q) := by
  subst hX
  have h0 := SparseCore.wp_vectorLoadIdx (defs := defs₀ (F := F)) 𝒱₀ (V d (cV L) (jV L)) none Set.univ (base := win) (idxs := idxs) (h := h) (hl := hl) (k := k) (Q := Q)
    (q := fullShare) (f := g) (Finset.subset_univ _)
  rw [read_win] at h0
  exact h0

/-- The second piece: products three to ten added. -/
theorem part2_step {g : S4x8x2048.Idx → Elt F .f32} {v w : IVec S16 32} {X Y : ℕ → FVec F S16 .f32} (H : Reads g v w X Y) (h6 : k0_chk6 v w (bc 0) (bc 3)) :
    ((V d (cV L) (jV L)).loc cc0_scratch2 ↦{fullShare} g : sProp 𝕄)
      ⊢ wp frame (wpE (defs₀ (F := F)) 𝒱₀ (V d (cV L) (jV L)) none) Set.univ
          (k0_part2 (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2 v w (bc 0) (sums X Y 3) (bc 3) h6)
          fun r => iprop(⌜r = ⟨bc 1, sums X Y 11, X 11, Y 11⟩⌝ ∗ ((V d (cV L) (jV L)).loc cc0_scratch2 ↦{fullShare} g)) := by
  rw [k0_part2_eq_skeleton]
  unfold k0_part2_skel
  simp only [Prog.lift, Prog.bind_op, Prog.bind_ret, Prog.pure_eq_ret]
  iintro HG
  iapply (load_step d L (H.hx 0 3 (by decide) (by decide) _)) $$ HG
  iintro HG
  iapply (load_step d L (H.hy 0 3 (by decide) (by decide) _)) $$ HG
  iintro HG
  rw [wp_assume_of 𝒱₀ (V d (cV L) (jV L)) none Set.univ (show k0_chk7 v w (bc 0) (bc 4) from H.chk 0 4 (by decide) (by decide))]
  iapply (load_step d L (H.hx 0 4 (by decide) (by decide) _)) $$ HG
  iintro HG
  iapply (load_step d L (H.hy 0 4 (by decide) (by decide) _)) $$ HG
  iintro HG
  rw [wp_assume_of 𝒱₀ (V d (cV L) (jV L)) none Set.univ (show k0_chk8 v w (bc 0) (bc 5) from H.chk 0 5 (by decide) (by decide))]
  iapply (load_step d L (H.hx 0 5 (by decide) (by decide) _)) $$ HG
  iintro HG
  iapply (load_step d L (H.hy 0 5 (by decide) (by decide) _)) $$ HG
  iintro HG
  rw [wp_assume_of 𝒱₀ (V d (cV L) (jV L)) none Set.univ (show k0_chk9 v w (bc 0) (bc 6) from H.chk 0 6 (by decide) (by decide))]
  iapply (load_step d L (H.hx 0 6 (by decide) (by decide) _)) $$ HG
  iintro HG
  iapply (load_step d L (H.hy 0 6 (by decide) (by decide) _)) $$ HG
  iintro HG
  rw [wp_assume_of 𝒱₀ (V d (cV L) (jV L)) none Set.univ (show k0_chk10 v w (bc 0) (bc 7) from H.chk 0 7 (by decide) (by decide))]
  iapply (load_step d L (H.hx 0 7 (by decide) (by decide) _)) $$ HG
  iintro HG
  iapply (load_step d L (H.hy 0 7 (by decide) (by decide) _)) $$ HG
  iintro HG
  rw [wp_assume_of 𝒱₀ (V d (cV L) (jV L)) none Set.univ (show k0_chk11 v w (bc 1) (bc 0) from H.chk 1 0 (by decide) (by decide))]
  iapply (load_step d L (H.hx 1 0 (by decide) (by decide) _)) $$ HG
  iintro HG
  iapply (load_step d L (H.hy 1 0 (by decide) (by decide) _)) $$ HG
  iintro HG
  rw [wp_assume_of 𝒱₀ (V d (cV L) (jV L)) none Set.univ (show k0_chk12 v w (bc 1) (bc 1) from H.chk 1 1 (by decide) (by decide))]
  iapply (load_step d L (H.hx 1 1 (by decide) (by decide) _)) $$ HG
  iintro HG
  iapply (load_step d L (H.hy 1 1 (by decide) (by decide) _)) $$ HG
  iintro HG
  rw [wp_assume_of 𝒱₀ (V d (cV L) (jV L)) none Set.univ (show k0_chk13 v w (bc 1) (bc 2) from H.chk 1 2 (by decide) (by decide))]
  iapply (load_step d L (H.hx 1 2 (by decide) (by decide) _)) $$ HG
  iintro HG
  iapply (load_step d L (H.hy 1 2 (by decide) (by decide) _)) $$ HG
  iintro HG
  rw [wp_assume_of 𝒱₀ (V d (cV L) (jV L)) none Set.univ (show k0_chk14 v w (bc 1) (bc 3) from H.chk 1 3 (by decide) (by decide))]
  iapply (load_step d L (H.hx 1 3 (by decide) (by decide) _)) $$ HG
  iintro HG
  iapply (load_step d L (H.hy 1 3 (by decide) (by decide) _)) $$ HG
  iintro HG
  rw [wp_ret]
  imodintro
  isplitr; · ipureintro; rfl
  iexact HG

/-- The third piece: products eleven to nineteen added. -/
theorem part3_step {g : S4x8x2048.Idx → Elt F .f32} {v w : IVec S16 32} {X Y : ℕ → FVec F S16 .f32} (H : Reads g v w X Y) :
    ((V d (cV L) (jV L)).loc cc0_scratch2 ↦{fullShare} g : sProp 𝕄)
      ⊢ wp frame (wpE (defs₀ (F := F)) 𝒱₀ (V d (cV L) (jV L)) none) Set.univ
          (k0_part3 (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2 v w (bc 1) (sums X Y 11) (X 11) (Y 11))
          fun r => iprop(⌜r = ⟨bc 2, sums X Y 20⟩⌝ ∗ ((V d (cV L) (jV L)).loc cc0_scratch2 ↦{fullShare} g)) := by
  rw [k0_part3_eq_skeleton]
  unfold k0_part3_skel
  simp only [Prog.lift, Prog.bind_op, Prog.bind_ret, Prog.pure_eq_ret]
  iintro HG
  rw [wp_assume_of 𝒱₀ (V d (cV L) (jV L)) none Set.univ (show k0_chk15 v w (bc 1) (bc 4) from H.chk 1 4 (by decide) (by decide))]
  iapply (load_step d L (H.hx 1 4 (by decide) (by decide) _)) $$ HG
  iintro HG
  iapply (load_step d L (H.hy 1 4 (by decide) (by decide) _)) $$ HG
  iintro HG
  rw [wp_assume_of 𝒱₀ (V d (cV L) (jV L)) none Set.univ (show k0_chk16 v w (bc 1) (bc 5) from H.chk 1 5 (by decide) (by decide))]
  iapply (load_step d L (H.hx 1 5 (by decide) (by decide) _)) $$ HG
  iintro HG
  iapply (load_step d L (H.hy 1 5 (by decide) (by decide) _)) $$ HG
  iintro HG
  rw [wp_assume_of 𝒱₀ (V d (cV L) (jV L)) none Set.univ (show k0_chk17 v w (bc 1) (bc 6) from H.chk 1 6 (by decide) (by decide))]
  iapply (load_step d L (H.hx 1 6 (by decide) (by decide) _)) $$ HG
  iintro HG
  iapply (load_step d L (H.hy 1 6 (by decide) (by decide) _)) $$ HG
  iintro HG
  rw [wp_assume_of 𝒱₀ (V d (cV L) (jV L)) none Set.univ (show k0_chk18 v w (bc 1) (bc 7) from H.chk 1 7 (by decide) (by decide))]
  iapply (load_step d L (H.hx 1 7 (by decide) (by decide) _)) $$ HG
  iintro HG
  iapply (load_step d L (H.hy 1 7 (by decide) (by decide) _)) $$ HG
  iintro HG
  rw [wp_assume_of 𝒱₀ (V d (cV L) (jV L)) none Set.univ (show k0_chk19 v w (bc 2) (bc 0) from H.chk 2 0 (by decide) (by decide))]
  iapply (load_step d L (H.hx 2 0 (by decide) (by decide) _)) $$ HG
  iintro HG
  iapply (load_step d L (H.hy 2 0 (by decide) (by decide) _)) $$ HG
  iintro HG
  rw [wp_assume_of 𝒱₀ (V d (cV L) (jV L)) none Set.univ (show k0_chk20 v w (bc 2) (bc 1) from H.chk 2 1 (by decide) (by decide))]
  iapply (load_step d L (H.hx 2 1 (by decide) (by decide) _)) $$ HG
  iintro HG
  iapply (load_step d L (H.hy 2 1 (by decide) (by decide) _)) $$ HG
  iintro HG
  rw [wp_assume_of 𝒱₀ (V d (cV L) (jV L)) none Set.univ (show k0_chk21 v w (bc 2) (bc 2) from H.chk 2 2 (by decide) (by decide))]
  iapply (load_step d L (H.hx 2 2 (by decide) (by decide) _)) $$ HG
  iintro HG
  iapply (load_step d L (H.hy 2 2 (by decide) (by decide) _)) $$ HG
  iintro HG
  rw [wp_assume_of 𝒱₀ (V d (cV L) (jV L)) none Set.univ (show k0_chk22 v w (bc 2) (bc 3) from H.chk 2 3 (by decide) (by decide))]
  iapply (load_step d L (H.hx 2 3 (by decide) (by decide) _)) $$ HG
  iintro HG
  iapply (load_step d L (H.hy 2 3 (by decide) (by decide) _)) $$ HG
  iintro HG
  rw [wp_ret]
  imodintro
  isplitr; · ipureintro; rfl
  iexact HG

/-- The fourth piece: products twenty to twenty-seven added. -/
theorem part4_step {g : S4x8x2048.Idx → Elt F .f32} {v w : IVec S16 32} {X Y : ℕ → FVec F S16 .f32} (H : Reads g v w X Y) :
    ((V d (cV L) (jV L)).loc cc0_scratch2 ↦{fullShare} g : sProp 𝕄)
      ⊢ wp frame (wpE (defs₀ (F := F)) 𝒱₀ (V d (cV L) (jV L)) none) Set.univ
          (k0_part4 (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2 v w (bc 2) (sums X Y 20))
          fun r => iprop(⌜r = ⟨bc 3, sums X Y 28, bc 4⟩⌝ ∗ ((V d (cV L) (jV L)).loc cc0_scratch2 ↦{fullShare} g)) := by
  rw [k0_part4_eq_skeleton]
  unfold k0_part4_skel
  simp only [Prog.lift, Prog.bind_op, Prog.bind_ret, Prog.pure_eq_ret]
  iintro HG
  rw [wp_assume_of 𝒱₀ (V d (cV L) (jV L)) none Set.univ (show k0_chk23 v w (bc 2) (bc 4) from H.chk 2 4 (by decide) (by decide))]
  iapply (load_step d L (H.hx 2 4 (by decide) (by decide) _)) $$ HG
  iintro HG
  iapply (load_step d L (H.hy 2 4 (by decide) (by decide) _)) $$ HG
  iintro HG
  rw [wp_assume_of 𝒱₀ (V d (cV L) (jV L)) none Set.univ (show k0_chk24 v w (bc 2) (bc 5) from H.chk 2 5 (by decide) (by decide))]
  iapply (load_step d L (H.hx 2 5 (by decide) (by decide) _)) $$ HG
  iintro HG
  iapply (load_step d L (H.hy 2 5 (by decide) (by decide) _)) $$ HG
  iintro HG
  rw [wp_assume_of 𝒱₀ (V d (cV L) (jV L)) none Set.univ (show k0_chk25 v w (bc 2) (bc 6) from H.chk 2 6 (by decide) (by decide))]
  iapply (load_step d L (H.hx 2 6 (by decide) (by decide) _)) $$ HG
  iintro HG
  iapply (load_step d L (H.hy 2 6 (by decide) (by decide) _)) $$ HG
  iintro HG
  rw [wp_assume_of 𝒱₀ (V d (cV L) (jV L)) none Set.univ (show k0_chk26 v w (bc 2) (bc 7) from H.chk 2 7 (by decide) (by decide))]
  iapply (load_step d L (H.hx 2 7 (by decide) (by decide) _)) $$ HG
  iintro HG
  iapply (load_step d L (H.hy 2 7 (by decide) (by decide) _)) $$ HG
  iintro HG
  rw [wp_assume_of 𝒱₀ (V d (cV L) (jV L)) none Set.univ (show k0_chk27 v w (bc 3) (bc 0) from H.chk 3 0 (by decide) (by decide))]
  iapply (load_step d L (H.hx 3 0 (by decide) (by decide) _)) $$ HG
  iintro HG
  iapply (load_step d L (H.hy 3 0 (by decide) (by decide) _)) $$ HG
  iintro HG
  rw [wp_assume_of 𝒱₀ (V d (cV L) (jV L)) none Set.univ (show k0_chk28 v w (bc 3) (bc 1) from H.chk 3 1 (by decide) (by decide))]
  iapply (load_step d L (H.hx 3 1 (by decide) (by decide) _)) $$ HG
  iintro HG
  iapply (load_step d L (H.hy 3 1 (by decide) (by decide) _)) $$ HG
  iintro HG
  rw [wp_assume_of 𝒱₀ (V d (cV L) (jV L)) none Set.univ (show k0_chk29 v w (bc 3) (bc 2) from H.chk 3 2 (by decide) (by decide))]
  iapply (load_step d L (H.hx 3 2 (by decide) (by decide) _)) $$ HG
  iintro HG
  iapply (load_step d L (H.hy 3 2 (by decide) (by decide) _)) $$ HG
  iintro HG
  rw [wp_assume_of 𝒱₀ (V d (cV L) (jV L)) none Set.univ (show k0_chk30 v w (bc 3) (bc 3) from H.chk 3 3 (by decide) (by decide))]
  iapply (load_step d L (H.hx 3 3 (by decide) (by decide) _)) $$ HG
  iintro HG
  iapply (load_step d L (H.hy 3 3 (by decide) (by decide) _)) $$ HG
  iintro HG
  rw [wp_ret]
  imodintro
  isplitr; · ipureintro; rfl
  iexact HG

end
end Cert.Proof.Tiles
-- ==== Proof.Body.lean ====
/- One group of a tile: its thirty-two copies, its sums and its sixteen results. -/
module

public import proofs.«01_k».proof.Proof.Group

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section

variable (d : Dev nD) (L : grid0.Coords) (A B : S4x8x1000000.Idx → Elt F .f32) (us is : S528.Idx → Elt F .i32)

/-- Component `k` of row `n` of a regrouped table. -/
def rowEnt (A : S4x8x1000000.Idx → Elt F .f32) (n k : ℕ) : F .f32 :=
  A (tabIx ⟨k / 8 % 4, Nat.mod_lt _ (by decide)⟩ ⟨k % 8, Nat.mod_lt _ (by decide)⟩ n)

/-- Component `k` of the sixteen rows a group names in `us`. -/
def lanes (A : S4x8x1000000.Idx → Elt F .f32) (us : S528.Idx → Elt F .i32) (t1 k : ℕ) : FVec F S16 .f32 :=
  fun l => rowEnt A (us (at528 (16 * t1 + (l 0).val))).toNat k

/-- The sixteen numbers of group `t1`. -/
def ids (us : S528.Idx → Elt F .i32) (t1 : ℕ) : Vec F S16 .i32 := fun l => us (at528 (16 * t1 + (l 0).val))

/-- The sixteen numbers a group reads from the first numbers' scratch. -/
theorem read_ids (us : S528.Idx → Elt F .i32) (t1 : Fin k0_t1_loop.trips) :
    usM.view.readAt (Elt F) (Rect.unit (s := S528) (k0_off36 t1) S16.size (k0_off36_inb t1)).toLoadRect us = ids us t1.val := by
  have ht1 : t1.val < 32 := Nat.lt_of_lt_of_le t1.isLt k0_t1_abs.2.1
  funext l
  have hl : (l 0).val < 16 := (l 0).isLt
  have ho : k0_off36 t1 0 = 16 * t1.val := congrFun (k0_off36_eq t1) 0
  refine congrArg us (funext fun a => Fin.ext ?_)
  match a with
  | ⟨0, _⟩ =>
    change k0_off36 t1 0 + 1 * (l 0).val = (16 * t1.val + (l 0).val) % 528
    omega

/-- A word's low four bits are its remainder by sixteen. -/
theorem and15 (x : BitVec 32) : (x &&& 15#32).toNat = x.toNat % 16 := by
  rw [BitVec.toNat_and]
  exact Nat.and_two_pow_sub_one_eq_mod x.toNat 4

/-- The first sixteen columns: lane `l` at its block's start plus its number modulo sixteen. -/
theorem col0 (x : Vec F S16 .i32) (l : S16.Idx) :
    (k0_pay5 k0_pay1 x l).toNat = 64 * (2 * (l 0).val) + (show BitVec 32 from x l).toNat % 16 := by
  have hl : (l 0).val < 16 := (l 0).isLt
  have ha := and15 (show BitVec 32 from x l)
  change (BitVec.ofNat 32 (0 * 16 + (l 0).val) * 128#32 + ((show BitVec 32 from x l) &&& 15#32)).toNat = _
  rw [BitVec.toNat_add, BitVec.toNat_mul, BitVec.toNat_ofNat, ha, show (128#32 : BitVec 32).toNat = 128 from rfl]
  omega

/-- The second sixteen, one block further. -/
theorem col1 (x : Vec F S16 .i32) (l : S16.Idx) :
    (k0_pay6 k0_pay1 x l).toNat = 64 * (2 * (l 0).val + 1) + (show BitVec 32 from x l).toNat % 16 := by
  have hl : (l 0).val < 16 := (l 0).isLt
  have ha := and15 (show BitVec 32 from x l)
  change (BitVec.ofNat 32 (0 * 16 + (l 0).val) * 128#32 + 64#32 + ((show BitVec 32 from x l) &&& 15#32)).toNat = _
  rw [BitVec.toNat_add, BitVec.toNat_add, BitVec.toNat_mul, BitVec.toNat_ofNat, ha, show (128#32 : BitVec 32).toNat = 128 from rfl,
    show (64#32 : BitVec 32).toNat = 64 from rfl]
  omega

/-- A load of the window at one block's columns reads the rows' components. -/
theorem read_block {A : S4x8x1000000.Idx → Elt F .f32} {us : S528.Idx → Elt F .i32} {t1 : ℕ} {g : S4x8x2048.Idx → Elt F .f32} {v : IVec S16 32} {bl : ℕ → ℕ}
    (hg : ∀ n, n < 16 → WinFact A (us (at528 (16 * t1 + n))) (bl n) g)
    (hv : ∀ l : S16.Idx, (v l).toNat = 64 * bl (l 0).val + (show BitVec 32 from us (at528 (16 * t1 + (l 0).val))).toNat % 16)
    (a b : ℕ) (ha : a < 4) (hb : b < 8) (h) : loadIdx (F := F) (e := .f32) g ![bc a, bc b, v] h = lanes A us t1 (8 * a + b) := by
  funext l
  have hl : (l 0).val < 16 := (l 0).isLt
  unfold loadIdx lanes rowEnt
  refine (hg (l 0).val hl _ ((show BitVec 32 from us (at528 (16 * t1 + (l 0).val))).toNat % 16) (Nat.mod_lt _ (by decide)) (hv l)).trans ?_
  rw [Nat.div_add_mod]
  have e0 : (idxAt (s := S4x8x2048) ![bc a, bc b, v] h l 0 : Fin 4) = ⟨(8 * a + b) / 8 % 4, Nat.mod_lt _ (by decide)⟩ := Fin.ext (by
    change a % 2 ^ 32 = (8 * a + b) / 8 % 4
    omega)
  have e1 : (idxAt (s := S4x8x2048) ![bc a, bc b, v] h l 1 : Fin 8) = ⟨(8 * a + b) % 8, Nat.mod_lt _ (by decide)⟩ := Fin.ext (by
    change b % 2 ^ 32 = (8 * a + b) % 8
    omega)
  exact congrArg A (congrArg₂ (fun x y => tabIx x y _) e0 e1)

/-- With every copy of the group in the window, its loads read the two rows' components lane by lane. -/
theorem reads_of {t1 : ℕ} {g : S4x8x2048.Idx → Elt F .f32} (hg : AllIn A B us is t1 g) :
    Reads g (k0_pay5 (F := F) k0_pay1 (ids us t1)) (k0_pay6 (F := F) k0_pay1 (ids is t1)) (lanes A us t1) (lanes B is t1) where
  hv l := by
    have hl : (l 0).val < 16 := (l 0).isLt
    rw [col0]; omega
  hw l := by
    have hl : (l 0).val < 16 := (l 0).isLt
    rw [col1]; omega
  hx := read_block (bl := fun n => 2 * n) (fun n hn => by
    have := hg (2 * n) (by omega)
    simpa only [tabSel, idOf, Nat.mul_mod_right, ↓reduceIte, Nat.mul_div_cancel_left n (show 0 < 2 by omega)] using this) (fun l => col0 _ l)
  hy := read_block (bl := fun n => 2 * n + 1) (fun n hn => by
    have := hg (2 * n + 1) (by omega)
    simpa only [tabSel, idOf, show ¬ (2 * n + 1) % 2 = 0 by omega, ↓reduceIte, show (2 * n + 1) / 2 = n by omega] using this) (fun l => col1 _ l)

variable [FloatOps F] [∀ e, Nonempty (Elt F e)]

/-- The result at position `n` of the tile's rows. -/
def rowOut (A B : S4x8x1000000.Idx → Elt F .f32) (us is : S528.Idx → Elt F .i32) (n : ℕ) : F .f32 :=
  sigm (run (rowEnt A (us (at528 n)).toNat) (rowEnt B (is (at528 n)).toNat) 32)

/-- The first piece: the copies, the columns and products nought to two. -/
theorem part1_step (hus : ∀ n, n < 512 → (us (at528 n)).toNat < 1000000) (his : ∀ n, n < 512 → (is (at528 n)).toNat < 1000000) (O : CellTallies nD τ sig (HIx 1))
    (W : Waits sig (HIx 1)) (t1 : Fin k0_t1_loop.trips) :
    iprop(tabs d L A B ∗ nums d L us is ∗ (∃ fw, (V d (cV L) (jV L)).loc cc0_scratch2 ↦{fullShare} fw)
        ∗ semVal (V d (cV L) (jV L), .dma cc0_scratch4.sem) 0 ∗ MayWaits (V d (cV L) (jV L)) none O ∗ waits d L O W)
      ⊢ wp frame (wpE (defs₀ (F := F)) 𝒱₀ (V d (cV L) (jV L)) none) Set.univ
          (k0_part1 (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2 k0_pay1 0#32 1#32 t1)
          fun r => iprop(∃ g, ⌜AllIn A B us is t1.val g⌝
            ∗ ⌜∃ v7 h6, r = ⟨v7, k0_pay5 (F := F) k0_pay1 (ids us t1.val), k0_pay6 (F := F) k0_pay1 (ids is t1.val), bc 0, sums (lanes A us t1.val) (lanes B is t1.val) 3, bc 3, h6⟩⌝
            ∗ tabs d L A B ∗ nums d L us is ∗ ((V d (cV L) (jV L)).loc cc0_scratch2 ↦{fullShare} g)
            ∗ semVal (V d (cV L) (jV L), .dma cc0_scratch4.sem) 0 ∗ waits d L O W) := by
  rw [k0_part1_eq_skeleton]
  unfold k0_part1_skel
  simp only [Prog.lift, Prog.bind_op, Prog.bind_ret, Prog.pure_eq_ret]
  iintro Hpre
  iapply (fetch d L A B us is hus his O W k0_pay1 0#32 1#32 t1) $$ Hpre
  iintro ⟨HT, HN, ⟨%g, %hg, HG⟩, HS, HO⟩
  have H := reads_of A B us is hg
  unfold nums
  icases HN with ⟨Hus, His⟩
  iapply (wp_load 𝒱₀ (V d (cV L) (jV L)) none Set.univ (m := usM) (Finset.subset_univ _)) $$ Hus
  iintro Hus
  iapply (wp_load 𝒱₀ (V d (cV L) (jV L)) none Set.univ (m := isM) (Finset.subset_univ _)) $$ His
  iintro His
  rw [read_ids us t1, show isM.view.readAt (Elt F) (Rect.unit (s := S528) (k0_off36 t1) S16.size (k0_off36_inb t1)).toLoadRect is = ids is t1.val from read_ids is t1]
  rw [wp_assume_of 𝒱₀ (V d (cV L) (jV L)) none Set.univ (show k0_chk3 (k0_pay5 (F := F) k0_pay1 (ids us t1.val)) (k0_pay6 (F := F) k0_pay1 (ids is t1.val)) (bc 0) (bc 0) from H.chk 0 0 (by decide) (by decide))]
  iapply (load_step d L (H.hx 0 0 (by decide) (by decide) _)) $$ HG
  iintro HG
  iapply (load_step d L (H.hy 0 0 (by decide) (by decide) _)) $$ HG
  iintro HG
  rw [wp_assume_of 𝒱₀ (V d (cV L) (jV L)) none Set.univ (show k0_chk4 (k0_pay5 (F := F) k0_pay1 (ids us t1.val)) (k0_pay6 (F := F) k0_pay1 (ids is t1.val)) (bc 0) (bc 1) from H.chk 0 1 (by decide) (by decide))]
  iapply (load_step d L (H.hx 0 1 (by decide) (by decide) _)) $$ HG
  iintro HG
  iapply (load_step d L (H.hy 0 1 (by decide) (by decide) _)) $$ HG
  iintro HG
  rw [wp_assume_of 𝒱₀ (V d (cV L) (jV L)) none Set.univ (show k0_chk5 (k0_pay5 (F := F) k0_pay1 (ids us t1.val)) (k0_pay6 (F := F) k0_pay1 (ids is t1.val)) (bc 0) (bc 2) from H.chk 0 2 (by decide) (by decide))]
  iapply (load_step d L (H.hx 0 2 (by decide) (by decide) _)) $$ HG
  iintro HG
  iapply (load_step d L (H.hy 0 2 (by decide) (by decide) _)) $$ HG
  iintro HG
  rw [wp_assume_of 𝒱₀ (V d (cV L) (jV L)) none Set.univ (show k0_chk6 (k0_pay5 (F := F) k0_pay1 (ids us t1.val)) (k0_pay6 (F := F) k0_pay1 (ids is t1.val)) (bc 0) (bc 3) from H.chk 0 3 (by decide) (by decide))]
  rw [wp_ret]
  imodintro
  iexists g
  isplitr; · ipureintro; exact hg
  isplitr; · ipureintro; exact ⟨_, _, rfl⟩
  isplitl [HT]; · iexact HT
  isplitl [Hus His]
  · isplitl [Hus]; · iexact Hus
    iexact His
  isplitl [HG]; · iexact HG
  isplitl [HS]; · iexact HS
  iexact HO

/-- The result scratch, whole. -/
abbrev ouM : Memref sig .scVector .vmem S512 .f32 := Memref.whole cc0_scratch3

/-- Below position `n` the result scratch holds the results. -/
def Done (A B : S4x8x1000000.Idx → Elt F .f32) (us is : S528.Idx → Elt F .i32) (n : ℕ) (f : S512.Idx → Elt F .f32) : Prop :=
  ∀ p : S512.Idx, (p 0).val < n → f p = rowOut A B us is (p 0).val

/-- Storing a group's sixteen results extends what is held by sixteen. -/
theorem done_step (t1 : Fin k0_t1_loop.trips) (f : S512.Idx → Elt F .f32) (w : FVec F S16 .f32)
    (hf : Done A B us is (16 * t1.val) f) (hw : ∀ l : S16.Idx, w l = rowOut A B us is (16 * t1.val + (l 0).val)) :
    Done A B us is (16 * (t1.val + 1))
      ((ouM.access (Rect.unit (s := S512) (k0_off37 t1) S16.size (k0_off37_inb t1))).write (Elt F) f w Finset.univ) := by
  intro p hp
  have ho : k0_off37 t1 0 = 16 * t1.val := congrFun (k0_off37_eq t1) 0
  by_cases hlt : (p 0).val < 16 * t1.val
  · rw [View.write_of_not_mem]
    · exact hf p hlt
    · intro hm
      obtain ⟨x, -, hx⟩ := Finset.mem_map.mp hm
      have hv := congrArg (fun q : S512.Idx => (q 0).val) hx
      have he : ((ouM.access (Rect.unit (s := S512) (k0_off37 t1) S16.size (k0_off37_inb t1))).emb x 0 : ℕ) = k0_off37 t1 0 + (x 0).val :=
        ValueKit.view_emb_slice_whole_unit_val cc0_scratch3 _ _ _ x 0
      have := he.symm.trans hv
      omega
  · let l : S16.Idx := ix1 (⟨(p 0).val - 16 * t1.val, by omega⟩ : Fin 16)
    have he : (ouM.access (Rect.unit (s := S512) (k0_off37 t1) S16.size (k0_off37_inb t1))).emb l = p := funext fun a => Fin.ext (by
      match a with
      | ⟨0, _⟩ =>
        refine (ValueKit.view_emb_slice_whole_unit_val cc0_scratch3 _ _ _ l 0).trans ?_
        change k0_off37 t1 0 + ((p 0).val - 16 * t1.val) = (p 0).val
        omega)
    rw [← he, View.write_emb_of_mem _ _ (Finset.mem_univ l), he]
    refine (hw l).trans (congrArg _ ?_)
    change 16 * t1.val + ((p 0).val - 16 * t1.val) = (p 0).val
    omega

/-- Before group `k`: the tables, the numbers, the window, the copies' semaphore at zero, and the results of the earlier groups. -/
def groupInv (O : CellTallies nD τ sig (HIx 1)) (W : Waits sig (HIx 1)) (k : ℕ) : sProp 𝕄 :=
  iprop(tabs d L A B ∗ nums d L us is ∗ (∃ fw, (V d (cV L) (jV L)).loc cc0_scratch2 ↦{fullShare} fw)
    ∗ semVal (V d (cV L) (jV L), .dma cc0_scratch4.sem) 0 ∗ MayWaits (V d (cV L) (jV L)) none O ∗ waits d L O W
    ∗ (∃ f, ⌜Done A B us is (16 * k) f⌝ ∗ (V d (cV L) (jV L)).loc cc0_scratch3 ↦{fullShare} f))

/-- The groups' loop's body. -/
abbrev t1Body :=
  k0_t1_body (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2

/-- One group. -/
theorem t1_step (hus : ∀ n, n < 512 → (us (at528 n)).toNat < 1000000) (his : ∀ n, n < 512 → (is (at528 n)).toNat < 1000000)
    (O : CellTallies nD τ sig (HIx 1)) (W : Waits sig (HIx 1)) (t1 : Fin k0_t1_loop.trips) (u : Unit) :
    groupInv d L A B us is O W t1.val
      ⊢ wp frame (wpE (defs₀ (F := F)) 𝒱₀ (V d (cV L) (jV L)) none) Set.univ (t1Body (F := F) L t1 u) fun _ => groupInv d L A B us is O W (t1.val + 1) := by
  unfold groupInv t1Body k0_t1_body
  simp only [Prog.lift, wp_bind]
  iintro ⟨HT, HN, HW, HS, #HM, HO, ⟨%f, %hf, HF⟩⟩
  iapply (wp_wand_r frame (wpE (defs₀ (F := F)) 𝒱₀ (V d (cV L) (jV L)) none) Set.univ)
  isplitl [HT HN HW HS HO]
  · iapply (part1_step d L A B us is hus his O W t1)
    isplitl [HT]; · iexact HT
    isplitl [HN]; · iexact HN
    isplitl [HW]; · iexact HW
    isplitl [HS]; · iexact HS
    isplitr; · iexact HM
    iexact HO
  iintro %r ⟨%g, %hg, %hr, HT, HN, HG, HS, HO⟩
  obtain ⟨v7, h6, rfl⟩ := hr
  have H := reads_of A B us is hg
  simp only
  iapply (wp_wand_r frame (wpE (defs₀ (F := F)) 𝒱₀ (V d (cV L) (jV L)) none) Set.univ)
  isplitl [HG]; · iapply (part2_step d L H h6) $$ HG
  iintro %r ⟨%hr, HG⟩
  subst hr
  simp only
  iapply (wp_wand_r frame (wpE (defs₀ (F := F)) 𝒱₀ (V d (cV L) (jV L)) none) Set.univ)
  isplitl [HG]; · iapply (part3_step d L H) $$ HG
  iintro %r ⟨%hr, HG⟩
  subst hr
  simp only
  iapply (wp_wand_r frame (wpE (defs₀ (F := F)) 𝒱₀ (V d (cV L) (jV L)) none) Set.univ)
  isplitl [HG]; · iapply (part4_step d L H) $$ HG
  iintro %r ⟨%hr, HG⟩
  subst hr
  simp only [← wp_bind]
  simp only [Prog.bind_op, Prog.bind_ret, Prog.pure_eq_ret]
  rw [wp_assume_of 𝒱₀ (V d (cV L) (jV L)) none Set.univ (show k0_chk31 (k0_pay5 (F := F) k0_pay1 (ids us t1.val)) (k0_pay6 (F := F) k0_pay1 (ids is t1.val)) (bc 3) (bc 4) from H.chk 3 4 (by decide) (by decide))]
  iapply (load_step d L (H.hx 3 4 (by decide) (by decide) _)) $$ HG
  iintro HG
  iapply (load_step d L (H.hy 3 4 (by decide) (by decide) _)) $$ HG
  iintro HG
  rw [wp_assume_of 𝒱₀ (V d (cV L) (jV L)) none Set.univ (show k0_chk32 (k0_pay5 (F := F) k0_pay1 (ids us t1.val)) (k0_pay6 (F := F) k0_pay1 (ids is t1.val)) (bc 3) (bc 5) from H.chk 3 5 (by decide) (by decide))]
  iapply (load_step d L (H.hx 3 5 (by decide) (by decide) _)) $$ HG
  iintro HG
  iapply (load_step d L (H.hy 3 5 (by decide) (by decide) _)) $$ HG
  iintro HG
  rw [wp_assume_of 𝒱₀ (V d (cV L) (jV L)) none Set.univ (show k0_chk33 (k0_pay5 (F := F) k0_pay1 (ids us t1.val)) (k0_pay6 (F := F) k0_pay1 (ids is t1.val)) (bc 3) (bc 6) from H.chk 3 6 (by decide) (by decide))]
  iapply (load_step d L (H.hx 3 6 (by decide) (by decide) _)) $$ HG
  iintro HG
  iapply (load_step d L (H.hy 3 6 (by decide) (by decide) _)) $$ HG
  iintro HG
  rw [wp_assume_of 𝒱₀ (V d (cV L) (jV L)) none Set.univ (show k0_chk34 (k0_pay5 (F := F) k0_pay1 (ids us t1.val)) (k0_pay6 (F := F) k0_pay1 (ids is t1.val)) (bc 3) (bc 7) from H.chk 3 7 (by decide) (by decide))]
  iapply (load_step d L (H.hx 3 7 (by decide) (by decide) _)) $$ HG
  iintro HG
  iapply (load_step d L (H.hy 3 7 (by decide) (by decide) _)) $$ HG
  iintro HG
  iapply (wp_load 𝒱₀ (V d (cV L) (jV L)) none Set.univ (m := ouM) (Finset.subset_univ _)) $$ HF
  iintro HF
  iapply (wp_store 𝒱₀ (V d (cV L) (jV L)) none Set.univ (m := ouM)
    (r := Rect.unit (s := S512) (k0_off37 t1) S16.size (k0_off37_inb t1)) (f := f) (Finset.subset_univ _)) $$ HF
  iintro HF
  rw [wp_ret]
  imodintro
  isplitl [HT]; · iexact HT
  isplitl [HN]; · iexact HN
  isplitl [HG]; · iexists g; iexact HG
  isplitl [HS]; · iexact HS
  isplitr; · iexact HM
  isplitl [HO]; · iexact HO
  iexists ((ouM.access (Rect.unit (s := S512) (k0_off37 t1) S16.size (k0_off37_inb t1))).write (Elt F) f
    (fun l => rowOut A B us is (16 * t1.val + (l 0).val)) Finset.univ)
  isplitr; · ipureintro; exact done_step A B us is t1 f _ hf fun _ => rfl
  iexact HF

end
end Cert.Proof.Tiles
-- ==== Proof.Tile.lean ====
/- One tile: its row numbers copied in, its thirty-two groups, its results copied out; and the launch's obligations about it. -/
module

public import proofs.«01_k».proof.Proof.Body

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ
local notation "EC" => (countersEmb : UEmb Counters (MT nD τ sig (HIx 1) (Elt F) ℕ UU ℕ))

section

variable (d : Dev nD) (L : grid0.Coords)

/-! ## Single copies -/

section Copy

variable [FloatOps F] [∀ e, Nonempty (Elt F e)]

/-- A copy started and waited for at once: the destination is rewritten with what the source reads as. -/
theorem copy_wait {sp sp' : Space} {s : Shape} {e : EltTy} (src : Memref sig .scVector sp s e) (dst : Memref sig .scVector sp' s e) (sem : DmaSem sig)
    {q : PosShare TreeShare} {fs : Buf (Elt F) (src.view.loc (V d (cV L) (jV L)))} {Sd : Finset (Idx (dst.view.loc (V d (cV L) (jV L))))}
    {fd : Buf (Elt F) (dst.view.loc (V d (cV L) (jV L)))} (hs : 0 < s.numel) (hSd : dst.view.set ⊆ Sd) (O : CellTallies nD τ sig (HIx 1))
    (W : Waits sig (HIx 1)) {h1 h2 h3 h4 h5} {α : Type} {k : PUnit → Prog (TpuEff nD τ sig (Elt F) Λ₀ (V d (cV L) (jV L)).2) α} {Q : α → sProp 𝕄} :
    iprop((src.view.loc (V d (cV L) (jV L)) ↦[src.view.set]{q} fs) ∗ (dst.view.loc (V d (cV L) (jV L)) ↦[Sd]{fullShare} fd)
        ∗ semVal (V d (cV L) (jV L), .dma sem) 0 ∗ MayWaits (V d (cV L) (jV L)) none O ∗ waits d L O W)
      ⊢ iprop(((dst.view.loc (V d (cV L) (jV L)) ↦[Sd]{fullShare} (dst.view.write (Elt F) fd (src.view.read (Elt F) fs) Finset.univ))
            ∗ (src.view.loc (V d (cV L) (jV L)) ↦[src.view.set]{q} fs) ∗ semVal (V d (cV L) (jV L), .dma sem) 0 ∗ waits d L O W
            -∗ wp frame (wpE (defs₀ (F := F)) 𝒱₀ (V d (cV L) (jV L)) none) Set.univ (k ⟨⟩) Q)
        -∗ wp frame (wpE (defs₀ (F := F)) 𝒱₀ (V d (cV L) (jV L)) none) Set.univ
            (.op (.enqueueDma src (.here dst) (.dma sem) h1 h2 h3) fun _ => .op (.waitDma2 sem src dst h4 h5) k) Q) := by
  iintro ⟨Hs, Hd, HS, #HM, HO⟩ Hk
  unfold waits
  icases HO with ⟨%W1, %hW1, HO⟩
  iapply (wp_dmaLocal EC 𝒱₀ (V d (cV L) (jV L)) none (src := src) (dst := dst) (via := .same) none _ rfl (View.amount_pos _ _ hs) hSd) $$ [Hs Hd HS]
  · isplitl [Hs]; · iexact Hs
    isplitl [Hd]; · iexact Hd
    iexact HS
  iintro HF
  ihave HM1 := (MayWaits.elim (SemLoc.dma sem)) $$ HM
  iapply (wp_waitLocalO EC 𝒱₀ (V d (cV L) (jV L)) none (dstw := dst) none rfl) $$ [HF HO HM1]
  · isplitl [HF]; · iexact HF
    isplitl [HO]; · iexact HO
    iexact HM1
  iintro ⟨⟨Hd, Hs⟩, HS, HO⟩
  iapply Hk
  isplitl [Hd]; · iexact Hd
  isplitl [Hs]; · iexact Hs
  isplitl [HS]; · iexact HS
  iexists insert (SemLoc.dma sem, none) W1
  isplitr; · ipureintro; exact waits_insert hW1 _
  iexact HO

end Copy

/-! ## The rows a tile copies -/

/-- A tile's first row. -/
abbrev base (L : grid0.Coords) : ℕ := 512 * wid (L 0).val (L 1).val

/-- The tile's copies of the row numbers start at its first row. -/
theorem off1_val : k0_off1 L 0 = base L := by
  have h : k0_off1 L 0 = 1024 * (L 1).val + 512 * (L 0).val := congrFun (k0_off1_eq L) 0
  rw [h]; unfold base wid; omega

/-- The tile's rows end inside the arrays. -/
theorem base_lt : base L + 512 ≤ 16384 := by
  have h0 : (L 0).val < 2 := (L 0).isLt
  have h1 : (L 1).val < 16 := (L 1).isLt
  unfold base wid; omega

/-- The tile's rows of a long array. -/
abbrev rowR (L : grid0.Coords) : Rect S16384 := Rect.unit (s := S16384) (k0_off1 L) S512.size (k0_off1_inb L)
/-- The part of a numbers' scratch the copies fill. -/
abbrev headR : Rect S528 := Rect.unit (s := S528) ![0] S512.size inb_S528_S512_0

/-- Position `x` of the tile's rows is position `x` after its first row. -/
theorem row_emb (x : S512.Idx) : (rowR L).emb x = pos (base L + (x 0).val) := by
  have hx : (x 0).val < 512 := (x 0).isLt
  have hb := base_lt L
  refine funext fun a => Fin.ext ((ValueKit.rect_emb_unit_val _ _ _ _ _).trans ?_)
  match a with
  | ⟨0, _⟩ =>
    change k0_off1 L 0 + (x 0).val = (base L + (x 0).val) % 16384
    rw [off1_val]; omega

/-- Position `n` of the scratch's first 512 is its position `n`. -/
theorem head_emb (n : ℕ) (hn : n < 512) : headR.emb (ix1 (⟨n, hn⟩ : Fin 512) : S512.Idx) = at528 n := by
  refine funext fun a => Fin.ext ((ValueKit.rect_emb_unit_val _ _ _ _ _).trans ?_)
  match a with
  | ⟨0, _⟩ =>
    change 0 + n = n % 528
    omega

/-- The tile's rows are the result's positions from its first row on. -/
theorem row_set : (rowR L).set = rows (wid (L 0).val (L 1).val) := by
  have hb := base_lt L
  ext p
  rw [← Rect.map_emb_univ, Finset.mem_map]
  constructor
  · rintro ⟨x, -, rfl⟩
    have hx : (x 0).val < 512 := (x 0).isLt
    rw [row_emb]
    refine Finset.mem_filter.mpr ⟨Finset.mem_univ _, ?_⟩
    change (base L + (x 0).val) % 16384 / 512 = wid (L 0).val (L 1).val
    unfold base at *
    omega
  · intro hp
    have hp2 : (p 0).val / 512 = wid (L 0).val (L 1).val := (Finset.mem_filter.mp hp).2
    have hl : (p 0).val - base L < 512 := by unfold base; omega
    refine ⟨(ix1 (⟨(p 0).val - base L, hl⟩ : Fin 512) : S512.Idx), Finset.mem_univ _, ?_⟩
    rw [row_emb]
    refine funext fun a => Fin.ext ?_
    match a with
    | ⟨0, _⟩ =>
      change (base L + ((p 0).val - base L)) % 16384 = (p 0).val
      unfold base at *
      omega

/-- The numbers a copy leaves in the first numbers' scratch. -/
theorem copied0 (u : S16384.Idx → Elt F .i32) (f : S528.Idx → Elt F .i32) (n : ℕ) (hn : n < 512) :
    (usM.slice headR (fun _ => rfl)).view.write (Elt F) f
      (((Memref.whole main_arg0_scv : Memref sig .scVector .hbm S16384 .i32).slice (rowR L) (fun _ => rfl)).view.read (Elt F) u) Finset.univ (at528 n)
      = u (pos (base L + n)) := by
  have he : (usM.slice headR (fun _ => rfl)).view.emb (ix1 (⟨n, hn⟩ : Fin 512) : S512.Idx) = at528 n := head_emb n hn
  rw [← he, View.write_emb_of_mem _ _ (Finset.mem_univ _)]
  exact congrArg u (row_emb L _)

/-- The numbers a copy leaves in the second numbers' scratch. -/
theorem copied1 (u : S16384.Idx → Elt F .i32) (f : S528.Idx → Elt F .i32) (n : ℕ) (hn : n < 512) :
    (isM.slice headR (fun _ => rfl)).view.write (Elt F) f
      (((Memref.whole main_arg1_scv : Memref sig .scVector .hbm S16384 .i32).slice (rowR L) (fun _ => rfl)).view.read (Elt F) u) Finset.univ (at528 n)
      = u (pos (base L + n)) := by
  have he : (isM.slice headR (fun _ => rfl)).view.emb (ix1 (⟨n, hn⟩ : Fin 512) : S512.Idx) = at528 n := head_emb n hn
  rw [← he, View.write_emb_of_mem _ _ (Finset.mem_univ _)]
  exact congrArg u (row_emb L _)

/-- A regrouped table's row is the table's. -/
theorem rowEnt_tabOf (E : S1000000x32.Idx → Elt F .f32) (n k : ℕ) : rowEnt (tabOf E) n k = E (entry n k) := by
  unfold rowEnt tabOf
  refine congrArg E (funext fun a => Fin.ext ?_)
  match a with
  | ⟨0, _⟩ =>
    change n % 1000000 % 1000000 = n % 1000000
    omega
  | ⟨1, _⟩ =>
    change (8 * (k / 8 % 4) + k % 8) % 32 = k % 32
    omega

variable [FloatOps F] [∀ e, Nonempty (Elt F e)] (m : (ℓ : Loc nD τ sig) → Buf (Elt F) ℓ)

/-- The result scratch copied out: the tile's rows hold the result. -/
theorem copied_out {us is : S528.Idx → Elt F .i32} (hu : ∀ n, n < 512 → us (at528 n) = m (uLoc d) (pos (base L + n)))
    (hi : ∀ n, n < 512 → is (at528 n) = m (iLoc d) (pos (base L + n))) {f : S512.Idx → Elt F .f32} (hf : Done (TU m d) (TI m d) us is 512 f)
    (o : S16384.Idx → Elt F .f32) (p : S16384.Idx) (hp : p ∈ rows (wid (L 0).val (L 1).val)) :
    ((Memref.whole main_v4_scv : Memref sig .scVector .hbm S16384 .f32).slice (rowR L) (fun _ => rfl)).view.write (Elt F) o
      (ouM.view.read (Elt F) f) Finset.univ p = OUT m d p := by
  rw [← row_set, ← Rect.map_emb_univ, Finset.mem_map] at hp
  obtain ⟨x, -, rfl⟩ := hp
  have hx : (x 0).val < 512 := (x 0).isLt
  have h1 : ((Memref.whole main_v4_scv : Memref sig .scVector .hbm S16384 .f32).slice (rowR L) (fun _ => rfl)).view.emb x = (rowR L).emb x := rfl
  rw [← h1, View.write_emb_of_mem _ _ (Finset.mem_univ _), h1, row_emb]
  refine (hf x hx).trans ?_
  unfold rowOut OUT out TU TI
  rw [hu _ hx, hi _ hx]
  simp only [funext (rowEnt_tabOf (m (eLoc d)) _), funext (rowEnt_tabOf (m (gLoc d)) _)]

/-- The loop over the groups has thirty-two trips. -/
theorem trips1 : k0_t1_loop.trips = 32 := by decide +kernel

/-! ## The tile's own semaphores and buffers -/

abbrev cell0 : GSem nD τ sig := (V d (cV L) (jV L), .dma cc0_scratch4.sem)
abbrev cell1 : GSem nD τ sig := (V d (cV L) (jV L), .dma cc0_scoped0.sem)
abbrev cell2 : GSem nD τ sig := (V d (cV L) (jV L), .dma cc0_scoped1.sem)
abbrev cell3 : GSem nD τ sig := (V d (cV L) (jV L), .dma cc0_scoped2.sem)

omit [FloatOps F] [∀ e, Nonempty (Elt F e)] in
/-- The four copies' semaphores are among the tile's own. -/
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  have ne {a b : SemLoc sig} (h : a ≠ b) : ((V d (cV L) (jV L), a) : GSem nD τ sig) ≠ (V d (cV L) (jV L), b) := fun e => h (Prod.mk.inj e).2
  have m0 : cell0 d L ∈ ownCells (V d (cV L) (jV L)) := mem_ownCells.mpr ⟨rfl, by show (SemLoc.dma cc0_scratch4.sem : SemLoc sig).isScoped .scVector = true; decide⟩
  have m1 : cell1 d L ∈ ownCells (V d (cV L) (jV L)) := mem_ownCells.mpr ⟨rfl, by show (SemLoc.dma cc0_scoped0.sem : SemLoc sig).isScoped .scVector = true; decide⟩
  have m2 : cell2 d L ∈ ownCells (V d (cV L) (jV L)) := mem_ownCells.mpr ⟨rfl, by show (SemLoc.dma cc0_scoped1.sem : SemLoc sig).isScoped .scVector = true; decide⟩
  have m3 : cell3 d L ∈ ownCells (V d (cV L) (jV L)) := mem_ownCells.mpr ⟨rfl, by show (SemLoc.dma cc0_scoped2.sem : SemLoc sig).isScoped .scVector = true; decide⟩
  unfold SparseCore.Cfg.ownSems0
  rw [SparseCore.bigSep_erase' m0, SparseCore.bigSep_erase' (Finset.mem_erase.mpr ⟨ne (by decide), m1⟩),
    SparseCore.bigSep_erase' (Finset.mem_erase.mpr ⟨ne (by decide), Finset.mem_erase.mpr ⟨ne (by decide), m2⟩⟩),
    SparseCore.bigSep_erase' (Finset.mem_erase.mpr ⟨ne (by decide), Finset.mem_erase.mpr ⟨ne (by decide), Finset.mem_erase.mpr ⟨ne (by decide), m3⟩⟩⟩)]

abbrev own (b : Ref sig .scVector) : DevRef τ sig := (Proc.scVector (cV L) (jV L)).devRef b

omit [FloatOps F] [∀ e, Nonempty (Elt F e)] in
/-- The four scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase (own L cc0_scratch2)).erase
              (own L cc0_scratch3)) fun b => iprop(∃ f, ((d, b) : Loc nD τ sig) ↦{fullShare} f)) := by
  have ne {a b : Ref sig .scVector} (h : a ≠ b) : own L a ≠ own L b := fun e => h (Proc.devRef_injective _ e)
  have m0 : own L cc0_scratch0 ∈ ownRefs (τ := τ) (.scVector (cV L) (jV L)) := SparseCore.Cfg.mem_ownRefs_of_owner (p := Proc.scVector (cV L) (jV L)) rfl
  have m1 : own L cc0_scratch1 ∈ ownRefs (τ := τ) (.scVector (cV L) (jV L)) := SparseCore.Cfg.mem_ownRefs_of_owner (p := Proc.scVector (cV L) (jV L)) rfl
  have m2 : own L cc0_scratch2 ∈ ownRefs (τ := τ) (.scVector (cV L) (jV L)) := SparseCore.Cfg.mem_ownRefs_of_owner (p := Proc.scVector (cV L) (jV L)) rfl
  have m3 : own L cc0_scratch3 ∈ ownRefs (τ := τ) (.scVector (cV L) (jV L)) := SparseCore.Cfg.mem_ownRefs_of_owner (p := Proc.scVector (cV L) (jV L)) rfl
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩),
    SparseCore.bigSep_erase' (Finset.mem_erase.mpr ⟨ne (by decide), Finset.mem_erase.mpr ⟨ne (by decide), Finset.mem_erase.mpr ⟨ne (by decide), m3⟩⟩⟩)]

/-! ## The tile's body -/

/-- What the run asks of the row numbers. -/
def PreOK : Prop := ∀ d : Dev nD, InRange (m (uLoc d)) ∧ InRange (m (iLoc d))

/-- The tile's part of the call. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ (ins m d q ∗ outRow d (wid (L 0).val (L 1).val) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__cf_body (F := F) L (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2)
          fun _ => iprop(outRow d (wid (L 0).val (L 1).val) (OUT m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__cf_body_eq_skeleton]; unfold cc0__cf_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold ins outRow
  iintro ⟨#Hlv, -, ⟨⟨HU, HI, HTu, HTi⟩, Ho⟩, ⟨⟨%f0, H0⟩, ⟨%f1, H1⟩, H2, ⟨%f3, H3⟩, Hbufs⟩, ⟨HS, HS0, HS1, HS2, Hsems⟩, HO⟩
  ihave #HM := ((K (F := F)).mayWaits_none (thr := V d (cV L) (jV L)) hO) $$ Hlv
  ihave HU2 := ((pointsTo_split_subset (Finset.subset_univ
    ((Memref.whole main_arg0_scv : Memref sig .scVector .hbm S16384 .i32).slice (rowR L) (fun _ => rfl)).view.set)).1) $$ HU
  icases HU2 with ⟨HU, -⟩
  ihave HI2 := ((pointsTo_split_subset (Finset.subset_univ
    ((Memref.whole main_arg1_scv : Memref sig .scVector .hbm S16384 .i32).slice (rowR L) (fun _ => rfl)).view.set)).1) $$ HI
  icases HI2 with ⟨HI, -⟩
  iapply (copy_wait d L ((Memref.whole main_arg0_scv : Memref sig .scVector .hbm S16384 .i32).slice (rowR L) (fun _ => rfl))
    (usM.slice headR (fun _ => rfl)) cc0_scoped0.sem (show 0 < S512.numel by decide) (Finset.subset_univ _) O W) $$ [HU H0 HS0 HO]
  · isplitl [HU]; · iexact HU
    isplitl [H0]; · iexact H0
    isplitl [HS0]; · iexact HS0
    isplitr; · iexact HM
    unfold waits
    iexists W
    isplitr; · ipureintro; exact fun p hp => .inl hp
    iexact HO
  iintro ⟨H0, -, HS0, HO⟩
  iapply (copy_wait d L ((Memref.whole main_arg1_scv : Memref sig .scVector .hbm S16384 .i32).slice (rowR L) (fun _ => rfl))
    (isM.slice headR (fun _ => rfl)) cc0_scoped1.sem (show 0 < S512.numel by decide) (Finset.subset_univ _) O W) $$ [HI H1 HS1 HO]
  · isplitl [HI]; · iexact HI
    isplitl [H1]; · iexact H1
    isplitl [HS1]; · iexact HS1
    isplitr; · iexact HM
    iexact HO
  iintro ⟨H1, -, HS1, HO⟩
  have hu := copied0 L (m (uLoc d)) f0
  have hi := copied1 L (m (iLoc d)) f1
  generalize (usM.slice headR (fun _ => rfl)).view.write (Elt F) f0
      (((Memref.whole main_arg0_scv : Memref sig .scVector .hbm S16384 .i32).slice (rowR L) (fun _ => rfl)).view.read (Elt F) (m (uLoc d))) Finset.univ = us at hu ⊢
  generalize (isM.slice headR (fun _ => rfl)).view.write (Elt F) f1
      (((Memref.whole main_arg1_scv : Memref sig .scVector .hbm S16384 .i32).slice (rowR L) (fun _ => rfl)).view.read (Elt F) (m (iLoc d))) Finset.univ = is at hi ⊢
  have hus : ∀ n, n < 512 → (us (at528 n)).toNat < 1000000 := fun n hn => by rw [hu n hn]; exact (hpre d).1 _
  have his : ∀ n, n < 512 → (is (at528 n)).toNat < 1000000 := fun n hn => by rw [hi n hn]; exact (hpre d).2 _
  iapply (Scf.wp_for_bind frame (wpE (defs₀ (F := F)) 𝒱₀ (V d (cV L) (jV L)) none) Set.univ _ _ _ k0_t1_ok ⟨⟩ (t1Body (F := F) L)
    (fun n _ => groupInv d L (TU m d) (TI m d) us is O W n) (fun n u => t1_step d L (TU m d) (TI m d) us is hus his O W n u)) $$ [HTu HTi H0 H1 H2 HS H3 HO]
  · unfold groupInv tabs nums
    isplitl [HTu HTi]
    · isplitl [HTu]; · iexists q; iexact HTu
      iexists q; iexact HTi
    isplitl [H0 H1]
    · isplitl [H0]; · iexact H0
      iexact H1
    isplitl [H2]; · iexact H2
    isplitl [HS]; · iexact HS
    isplitr; · iexact HM
    isplitl [HO]; · iexact HO
    iexists f3
    isplitr; · ipureintro; exact fun p hp => absurd hp (Nat.not_lt_zero _)
    iexact H3
  iintro %_ HI
  rw [show Scf.trips k0_t1_loop.lb k0_t1_loop.ub k0_t1_loop.st = 32 from trips1]
  unfold groupInv nums
  icases HI with ⟨-, ⟨H0, H1⟩, H2, HS, -, HO, ⟨%f, %hf, H3⟩⟩
  iapply (copy_wait d L ouM ((Memref.whole main_v4_scv : Memref sig .scVector .hbm S16384 .f32).slice (rowR L) (fun _ => rfl))
    cc0_scoped2.sem (q := fullShare) (fs := f) (Sd := rows (wid (L 0).val (L 1).val)) (fd := m (oLoc d)) (show 0 < S512.numel by decide) ?_ O W) $$ [H3 Ho HS2 HO]
  · rw [← row_set]
    exact (View.set_slice_whole _ _).subset
  · isplitl [H3]
    · iapply (Entails.of_eq (by simp only [Memref.view_whole, View.set_whole])) $$ H3
    isplitl [Ho]; · iexact Ho
    isplitl [HS2]; · iexact HS2
    isplitr; · iexact HM
    iexact HO
  iintro ⟨Ho, H3, HS2, HO⟩
  rw [wp_ret]
  imodintro
  isplitl [Ho]
  · iapply (Entails.of_eq (pointsTo_congr (copied_out d L m hu hi hf (m (oLoc d))))) $$ Ho
  isplitl [H0 H1 H2 H3 Hbufs]
  · isplitl [H0]; · iexists us; iexact H0
    isplitl [H1]; · iexists is; iexact H1
    isplitl [H2]; · iexact H2
    isplitl [H3]
    · iexists f
      iapply (Entails.of_eq (by simp only [Memref.view_whole, View.set_whole])) $$ H3
    iexact Hbufs
  isplitl [HS HS0 HS1 HS2 Hsems]
  · isplitl [HS]; · iexact HS
    isplitl [HS0]; · iexact HS0
    isplitl [HS1]; · iexact HS1
    isplitl [HS2]; · iexact HS2
    iexact Hsems
  unfold waits
  iexact HO

end

/-! ## The launch's obligation -/

section

variable [FloatOps F] [∀ e, Nonempty (Elt F e)] (m : (ℓ : Loc nD τ sig) → Buf (Elt F) ℓ)

/-- The grid coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The call's program on a tile. -/
theorem defs₀_vector (c : Fin τ.nSC) (s : Fin τ.nSub) :
    defs₀ (F := F) (.scVector c s) 0 ()
      = SparseCore.onTile hcore0 hsub0 (fun c s => cc0__cf_body (F := F) (coordsV c s) (Memref.whole main_arg0_scv) (Memref.isWhole_whole _) (Memref.whole main_arg1_scv) (Memref.isWhole_whole _)
            tuM (Memref.isWhole_whole _) tiM (Memref.isWhole_whole _) (Memref.whole main_v4_scv) (Memref.isWhole_whole _)
            usM (Memref.isWhole_whole _) isM (Memref.isWhole_whole _) win (Memref.isWhole_whole _) (Memref.whole cc0_scratch3) (Memref.isWhole_whole _)
            cc0_scratch4 cc0_scoped0 cc0_scoped1 cc0_scoped2) ⟨⟩ c s := rfl

omit [FloatOps F] [∀ e, Nonempty (Elt F e)] in
/-- A task's waits, each an old one or one of its own, are among those a call's task may leave. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets the call's obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m hF hpre _ O W hO).trans (wp_mono frame _ _ fun _ => obl_post)

end
end Cert.Proof.Tiles
-- ==== Proof.Launch.lean ====
/- The program on the TensorCore and its run: the two tables are transposed and regrouped, the one call hands the tiles read
   shares of the row numbers and of the regrouped tables and each its own rows of the result, and takes the rows back at
   the values the tiles computed. The four arguments stay as they were. -/
module

public import proofs.«01_k».proof.Proof.Tile

@[expose] public section

noncomputable section

namespace Cert.Proof.Tiles

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

/-- A family of nothing is nothing. -/
theorem bigSep_nothing {I : Type} (s : Finset I) : (bigSep s fun _ => iprop(emp)) = (iprop(emp) : sProp 𝕄) := bigSep_emp_const s

/-- The launch element gives the handshakes' cells; the kernel has no resources of its own at launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The result's rows -/

/-- A SparseCore's rows: its sixteen tiles'. -/
def coreRows (c : Fin 2) : Finset S16384.Idx := Finset.univ.biUnion fun i : Fin 16 => rows (wid c.val i.val)

/-- A position is tile `w`'s when its number over 512 is `w`. -/
theorem mem_rows {w : ℕ} {p : S16384.Idx} : p ∈ rows w ↔ (p 0).val / 512 = w := by
  unfold rows; rw [Finset.mem_filter]; exact ⟨fun h => h.2, fun h => ⟨Finset.mem_univ _, h⟩⟩

/-- Two tiles of a SparseCore have no position in common. -/
theorem rows_disjoint (c : Fin 2) : ∀ i ∈ (Finset.univ : Finset (Fin 16)), ∀ j ∈ (Finset.univ : Finset (Fin 16)), i ≠ j →
    Disjoint (rows (wid c.val i.val)) (rows (wid c.val j.val)) := by
  intro i _ j _ hij
  rw [Finset.disjoint_left]
  intro p hp hq
  rw [mem_rows] at hp hq
  exact hij (Fin.ext (by unfold wid at hp hq; omega))

/-- A position is SparseCore `c`'s when its tile number has `c`'s parity. -/
theorem mem_coreRows {c : Fin 2} {p : S16384.Idx} : p ∈ coreRows c ↔ (p 0).val / 512 % 2 = c.val := by
  have hp : (p 0).val < 16384 := (p 0).isLt
  have hc := c.isLt
  unfold coreRows
  rw [Finset.mem_biUnion]
  constructor
  · rintro ⟨i, -, hi⟩
    rw [mem_rows] at hi
    unfold wid at hi; omega
  · intro h
    refine ⟨(⟨(p 0).val / 512 / 2, by omega⟩ : Fin 16), Finset.mem_univ _, ?_⟩
    rw [mem_rows]
    show (p 0).val / 512 = 2 * ((p 0).val / 512 / 2) + c.val
    omega

/-- The two SparseCores have no position in common. -/
theorem coreRows_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro p hp hq
  rw [mem_coreRows] at hp hq
  exact h (Fin.ext (hp.symm.trans hq))

/-- The two SparseCores' positions are all of them. -/
theorem coreRows_cover : (Finset.univ : Finset (Fin 2)).biUnion coreRows = (Finset.univ : Finset S16384.Idx) := by
  ext p
  refine ⟨fun _ => Finset.mem_univ _, fun _ => Finset.mem_biUnion.mpr ⟨(⟨(p 0).val / 512 % 2, Nat.mod_lt _ (by decide)⟩ : Fin 2), Finset.mem_univ _, ?_⟩⟩
  rw [mem_coreRows]

/-- A SparseCore's rows of the result are its tiles'. -/
theorem core_rows (d : Dev nD) (f : Buf (Elt F) (oLoc d)) (c : Fin 2) :
    (bigSep Finset.univ fun i : Fin 16 => outRow d (wid c.val i.val) f : sProp 𝕄) = oLoc d ↦[coreRows c]{fullShare} f := by
  unfold outRow coreRows
  rw [← pointsTo_biUnion Finset.univ (ℓ := oLoc d) (fun i : Fin 16 => rows (wid c.val i.val)) (rows_disjoint c)]

/-- The result whole is its rows, tile by tile of each SparseCore. -/
theorem out_rows (d : Dev nD) (f : Buf (Elt F) (oLoc d)) :
    (bigSep Finset.univ fun c : Fin 2 => bigSep Finset.univ fun i : Fin 16 => outRow d (wid c.val i.val) f : sProp 𝕄)
      = oLoc d ↦{fullShare} f := by
  rw [bigSep_congr fun c _ => core_rows d f c,
    ← pointsTo_biUnion Finset.univ (ℓ := oLoc d) coreRows coreRows_disjoint, coreRows_cover]

/-! ## What the call takes and hands back -/

/-- The read shares and the result whole give each SparseCore what it is handed; a share of each array read stays. -/
theorem st0_split (d : Dev nD) :
    iprop(ins m d fullShare ∗ (oLoc d ↦{fullShare} m (oLoc d)))
      ⊢ iprop(ins m d (Transfers.shareDrop fullShare 2)
          ∗ bigSep Finset.univ fun c : Fin ((K (F := F)).nCore 0) => (P m).st 0 d c) := by
  show _ ⊢ iprop(ins m d (Transfers.shareDrop fullShare 2) ∗ bigSep (Finset.univ : Finset (Fin 2)) fun c => stP m d c)
  unfold stP
  rw [bigSep_pair, ← out_rows]
  iintro ⟨Hi, Ho⟩
  ihave Hi' := (ins_split m d fullShare 2) $$ Hi
  icases Hi' with ⟨A, B⟩
  isplitl [A]; · iexact A
  isplitl [B]; · iexact B
  iexact Ho

/-- What the SparseCores hand back is the result whole, at its values. -/
theorem dn0_eq (d : Dev nD) : (bigSep Finset.univ fun c : Fin ((K (F := F)).nCore 0) => (P m).dn 0 d c)
    = (oLoc d ↦{fullShare} OUT m d : sProp 𝕄) := by
  rw [← out_rows]; rfl

/-! ## The TensorCore's arrays through the four operations before the call -/

abbrev ru : DevRef τ sig := Proc.devRef .tc (main_arg0 : Ref sig .tc)
abbrev ri : DevRef τ sig := Proc.devRef .tc (main_arg1 : Ref sig .tc)
abbrev re : DevRef τ sig := Proc.devRef .tc (main_arg2 : Ref sig .tc)
abbrev rg : DevRef τ sig := Proc.devRef .tc (main_arg3 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev op1 : HloOp τ sig (Elt F) := StableHlo.unary main_arg2 main_v0
  ((transpose S32x1000000 [1, 0] · transposes_S1000000x32_S32x1000000_1_0) : (⟨S1000000x32, .f32⟩ : BufTy).Contents (Elt F) → (⟨S32x1000000, .f32⟩ : BufTy).Contents (Elt F))
abbrev op2 : HloOp τ sig (Elt F) := StableHlo.reshape main_v0 main_v1 (rfl : (.f32 : EltTy) = .f32) shapeCasts_S32x1000000_S4x8x1000000
abbrev op3 : HloOp τ sig (Elt F) := StableHlo.unary main_arg3 main_v2
  ((transpose S32x1000000 [1, 0] · transposes_S1000000x32_S32x1000000_1_0) : (⟨S1000000x32, .f32⟩ : BufTy).Contents (Elt F) → (⟨S32x1000000, .f32⟩ : BufTy).Contents (Elt F))
abbrev op4 : HloOp τ sig (Elt F) := StableHlo.reshape main_v2 main_v3 (rfl : (.f32 : EltTy) = .f32) shapeCasts_S32x1000000_S4x8x1000000

/-- The TensorCore's arrays: the arguments, the intermediates, the result. -/
abbrev S9 : Finset (DevRef τ sig) := {ru, ri, re, rg, r0, r1, r2, r3, r4}

/-- The nine arrays held together are each held whole. -/
theorem held_S9 (d : Dev nD) (W : Valuation τ sig (Elt F)) :
    (held (T d) S9 W : sProp 𝕄) = iprop((uLoc d ↦{fullShare} W ru) ∗ (iLoc d ↦{fullShare} W ri) ∗ (eLoc d ↦{fullShare} W re)
      ∗ (gLoc d ↦{fullShare} W rg) ∗ ((SparseCore.T d).loc main_v0 ↦{fullShare} W r0) ∗ (tuLoc d ↦{fullShare} W r1)
      ∗ ((SparseCore.T d).loc main_v2 ↦{fullShare} W r2) ∗ (tiLoc d ↦{fullShare} W r3) ∗ (oLoc d ↦{fullShare} W r4)) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The TensorCore's arrays at launch are the nine. -/
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (eLoc d ↦{fullShare} W main_arg2)
      ∗ (gLoc d ↦{fullShare} W main_arg3) ∗ ((SparseCore.T d).loc main_v0 ↦{fullShare} W main_v0) ∗ (tuLoc d ↦{fullShare} W main_v1)
      ∗ ((SparseCore.T d).loc main_v2 ↦{fullShare} W main_v2) ∗ (tiLoc d ↦{fullShare} W main_v3) ∗ (oLoc d ↦{fullShare} W main_v4)) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The contents at launch, and after each operation. -/
def V0 (d : Dev nD) : Valuation τ sig (Elt F) := fun b => m (d, b)
def V1 (d : Dev nD) : Valuation τ sig (Elt F) := (op1 (F := F)).result (V0 m d)
def V2 (d : Dev nD) : Valuation τ sig (Elt F) := (op2 (F := F)).result (V1 m d)
def V3 (d : Dev nD) : Valuation τ sig (Elt F) := (op3 (F := F)).result (V2 m d)
def V4 (d : Dev nD) : Valuation τ sig (Elt F) := (op4 (F := F)).result (V3 m d)

/-- They are held at their launch contents. -/
theorem unscoped_held (d : Dev nD) : (unscopedBufs d (fun b => m ((SparseCore.T d).loc b)) : sProp 𝕄) = held (T d) S9 (V0 m d) := by
  rw [unscopedBufs_eq, held_S9]; rfl

/-- The first row numbers are as at launch. -/
theorem V4_u (d : Dev nD) : V4 m d ru = m (uLoc d) := by
  unfold V4 V3 V2 V1; after_results_simp; rfl
/-- The second row numbers are as at launch. -/
theorem V4_i (d : Dev nD) : V4 m d ri = m (iLoc d) := by
  unfold V4 V3 V2 V1; after_results_simp; rfl
/-- The first table is as at launch. -/
theorem V4_e (d : Dev nD) : V4 m d re = m (eLoc d) := by
  unfold V4 V3 V2 V1; after_results_simp; rfl
/-- The second table is as at launch. -/
theorem V4_g (d : Dev nD) : V4 m d rg = m (gLoc d) := by
  unfold V4 V3 V2 V1; after_results_simp; rfl
/-- The result is as at launch. -/
theorem V4_o (d : Dev nD) : V4 m d r4 = m (oLoc d) := by
  unfold V4 V3 V2 V1; after_results_simp; rfl

/-- A table transposed and regrouped by eight columns. -/
theorem regroup (E : S1000000x32.Idx → Elt F .f32) (h : S1000000x32.Transposes [1, 0] S32x1000000) (h' : S32x1000000.ShapeCasts S4x8x1000000) :
    shapeCast S4x8x1000000 (transpose S32x1000000 [1, 0] E h) h' = tabOf E := by
  funext j
  have h0 : (j 0).val < 4 := (j 0).isLt
  have h1 : (j 1).val < 8 := (j 1).isLt
  have h2 : (j 2).val < 1000000 := (j 2).isLt
  have hk : 8 * (j 0).val + (j 1).val < 32 := by omega
  refine (shapeCast_apply _ h' j (ix2 (⟨8 * (j 0).val + (j 1).val, hk⟩ : Fin 32) (⟨(j 2).val, h2⟩ : Fin 1000000)) ?_).trans ?_
  · refine (Shape.rowMajor_val_two _).trans (Eq.trans ?_ (Shape.rowMajor_val_three j).symm)
    show (8 * (j 0).val + (j 1).val) * 1000000 + (j 2).val = ((j 0).val * 8 + (j 1).val) * 1000000 + (j 2).val
    omega
  · refine transpose_apply _ E h _ (entry (j 2).val (8 * (j 0).val + (j 1).val)) fun b => ?_
    match b with
    | ⟨0, _⟩ => exact Nat.mod_eq_of_lt hk
    | ⟨1, _⟩ => exact Nat.mod_eq_of_lt h2

/-- The first table's regrouping is in place. -/
theorem V4_tu (d : Dev nD) : V4 m d r1 = TU m d := by
  unfold V4 V3 V2 V1; after_results_simp
  exact regroup (m (eLoc d)) _ _
/-- The second table's regrouping is in place. -/
theorem V4_ti (d : Dev nD) : V4 m d r3 = TI m d := by
  unfold V4 V3 V2 V1; after_results_simp
  exact regroup (m (gLoc d)) _ _

/-- The first transposition touches the nine arrays only. -/
theorem hop1 : (op1 (F := F)).bufs ⊆ S9 := show ({re, r0} : Finset (DevRef τ sig)) ⊆ S9 by decide
/-- The first regrouping touches the nine arrays only. -/
theorem hop2 : (op2 (F := F)).bufs ⊆ S9 := show ({r0, r1} : Finset (DevRef τ sig)) ⊆ S9 by decide
/-- The second transposition touches the nine arrays only. -/
theorem hop3 : (op3 (F := F)).bufs ⊆ S9 := show ({rg, r2} : Finset (DevRef τ sig)) ⊆ S9 by decide
/-- The second regrouping touches the nine arrays only. -/
theorem hop4 : (op4 (F := F)).bufs ⊆ S9 := show ({r2, r3} : Finset (DevRef τ sig)) ⊆ S9 by decide

/-- The arrays after the four operations: the arguments as they were, the tables regrouped, the result as it was. -/
theorem held_V4 (d : Dev nD) :
    (held (T d) S9 ((op4 (F := F)).result (V3 m d)) : sProp 𝕄) ⊢ iprop(ins m d fullShare ∗ (oLoc d ↦{fullShare} m (oLoc d))
      ∗ (eLoc d ↦{fullShare} m (eLoc d)) ∗ (gLoc d ↦{fullShare} m (gLoc d))) := by
  rw [show (op4 (F := F)).result (V3 m d) = V4 m d from rfl, held_S9, V4_u, V4_i, V4_e, V4_g, V4_o, V4_tu, V4_ti]
  unfold ins
  iintro ⟨Hu, Hi, He, Hg, -, Htu, -, Hti, Ho⟩
  isplitl [Hu Hi Htu Hti]
  · isplitl [Hu]; · iexact Hu
    isplitl [Hi]; · iexact Hi
    isplitl [Htu]; · iexact Htu
    iexact Hti
  isplitl [Ho]; · iexact Ho
  isplitl [He]; · iexact He
  iexact Hg

/-! ## @main on the TensorCore -/

/-- What @main leaves the claim: the four arguments at their launch contents, the result at its values. -/
abbrev FIN (d : Dev nD) : sProp 𝕄 :=
  iprop(ins m d (Transfers.shareDrop fullShare 2) ∗ (oLoc d ↦{fullShare} OUT m d)
    ∗ (eLoc d ↦{fullShare} m (eLoc d)) ∗ (gLoc d ↦{fullShare} m (gLoc d)))

/-- @main on device `d`'s TensorCore: the four operations over the arrays held together, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S9) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) hop2 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) hop3 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) hop4 (V := V3 m d)) $$ [Hb Hheld]
  · isplitl [Hb]; · iexact Hb
    iexact Hheld
  iintro ⟨Hb, Hheld⟩
  rw [wp_ret]; imodintro
  ihave Hh := (held_V4 m d) $$ Hheld
  icases Hh with ⟨Hi, Ho, He, Hg⟩
  ihave Hs := (st0_split m d) $$ [Hi Ho]
  · isplitl [Hi] <;> iassumption
  icases Hs with ⟨Hi, Hops⟩
  iapply ((K (F := F)).wp_run (D (F := F)) 𝒱 (EH := EH) (P := P m) κ d 0) $$ [Hst Hi Hops He Hg Hb Hts]
  isplitr; · iexact Hctx
  isplitl [Hst]; · iexact Hst
  isplitl [Hops]; · iexact Hops
  iintro ⟨Hst, Hdn⟩
  ihave Ho := (Entails.of_eq (dn0_eq m d)) $$ Hdn
  imodintro
  isplitl [Hst]; · iexact Hst
  isplitr [Hb Hts]
  · isplitl [Hi]; · iexact Hi
    isplitl [Ho]; · iexact Ho
    isplitl [He]; · iexact He
    iexact Hg
  isplitl [Hb] <;> iassumption

/-- What the final memory says on device `d`. -/
def fq (d : Dev nD) (s' : Phys nD τ sig (Elt F)) : Prop :=
  s'.mem.mem (oLoc d) = OUT m d ∧ s'.mem.mem (uLoc d) = m (uLoc d) ∧ s'.mem.mem (iLoc d) = m (iLoc d)
    ∧ s'.mem.mem (eLoc d) = m (eLoc d) ∧ s'.mem.mem (gLoc d) = m (gLoc d)

/-- An array held whole is what the memory holds there, and both stay. -/
theorem agree (ℓ : Loc nD τ sig) (q : PosShare TreeShare) (f : Buf (Elt F) ℓ) (s' : Phys nD τ sig (Elt F)) :
    iprop(SI s' ∗ ℓ ↦{q} f) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := q) (f := f))) $$ [HSI Hx]
  · isplitl [HSI] <;> iassumption
  icases H with ⟨%hx, HSI, -⟩
  isplitr
  · ipureintro; exact funext fun i => hx i (Finset.mem_univ i)
  iexact HSI

/-- What @main leaves fixes the final memory. -/
theorem hfin (d : Dev nD) (s' : Phys nD τ sig (Elt F)) : iprop(FIN m d ∗ SI s') ⊢ (⌜fq m d s'⌝ : sProp 𝕄) := by
  unfold FIN ins
  iintro ⟨⟨⟨Hu, Hi, -, -⟩, Ho, He, Hg⟩, HSI⟩
  ihave H := (agree (oLoc d) fullShare (OUT m d) s') $$ [HSI Ho]
  · isplitl [HSI] <;> iassumption
  icases H with ⟨%ho, HSI⟩
  ihave H := (agree (uLoc d) (Transfers.shareDrop fullShare 2) (m (uLoc d)) s') $$ [HSI Hu]
  · isplitl [HSI] <;> iassumption
  icases H with ⟨%hu, HSI⟩
  ihave H := (agree (iLoc d) (Transfers.shareDrop fullShare 2) (m (iLoc d)) s') $$ [HSI Hi]
  · isplitl [HSI] <;> iassumption
  icases H with ⟨%hi, HSI⟩
  ihave H := (agree (eLoc d) fullShare (m (eLoc d)) s') $$ [HSI He]
  · isplitl [HSI] <;> iassumption
  icases H with ⟨%he, HSI⟩
  ihave H := (agree (gLoc d) fullShare (m (gLoc d)) s') $$ [HSI Hg]
  · isplitl [HSI] <;> iassumption
  icases H with ⟨%hg, -⟩
  ipureintro; exact ⟨ho, hu, hi, he, hg⟩

/-! ## The program's run -/

/-- What the run ends in: the result at its values, the arguments as they were, every semaphore at zero. -/
def QC : PUnit × MemSt nD τ sig (Elt F) → Prop := fun r =>
  (∀ d : Dev nD, r.2.mem (oLoc d) = OUT m d ∧ r.2.mem (uLoc d) = m (uLoc d) ∧ r.2.mem (iLoc d) = m (iLoc d)
    ∧ r.2.mem (eLoc d) = m (eLoc d) ∧ r.2.mem (gLoc d) = m (gLoc d)) ∧ r.2.sem = fun _ => 0

/-- From row numbers in range, the program ends in `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tiles

end
-- ==== Proof.RefValue.lean ====
/- What the reference computes, read at a position: for row numbers in range its two lookups are the rows named, its sum over
   the thirty-two columns is the kernel's running sum, and its sigmoid is the kernel's. -/
module

public import proofs.«01_k».proof.Proof.Spec
public import proofs.«01_k».proof.Proof.Gen.ReferenceIdeal
public import Idealize.ShloMosaic.Lib.IdealHost
public import Idealize.ShloMosaic.Lib.ReduceAll
public import Idealize.ShloMosaic.Lib.Routing.Ops

@[expose] public section

noncomputable section

namespace Cert.Proof.RefValue

open Cert.ReferenceIdeal Cert.ReferenceIdeal.Gen
open Cert.Proof.Spec (entry out run sigm InRange)
open Idealize.ShloMosaic Idealize.ShloMosaic.ValueIdx

/-! ## The words -/

/-- The bit of a true proposition is one. -/
theorem ofBool_true (b : Bool) (h : b = true) : BitVec.ofBool b = 1#1 := by rw [h]; rfl

/-- A row number reads the same signed and unsigned. -/
theorem toInt_small (w : BitVec 32) (h : w.toNat < 1000000) : w.toInt = w.toNat := by
  rw [BitVec.toInt_eq_toNat_cond, if_pos (by omega)]

/-- A row number is not negative, so it is not wrapped. -/
theorem not_slt (w : BitVec 32) (h : w.toNat < 1000000) : IntOp.cmpi .slt w 0#32 ≠ 1#1 := by
  have e : w.slt 0#32 = false := by
    rw [BitVec.slt_eq_decide, decide_eq_false_iff_not, toInt_small w h, show (0#32 : BitVec 32).toInt = 0 from rfl]; omega
  show BitVec.ofBool (w.slt 0#32) ≠ 1#1
  rw [e]; decide
/-- A row number is at least zero. -/
theorem sge_one (w : BitVec 32) (h : w.toNat < 1000000) : IntOp.cmpi .sge w 0#32 = 1#1 :=
  ofBool_true _ (by
    show (0#32 : BitVec 32).sle w = true
    rw [BitVec.sle_eq_decide, decide_eq_true_eq, toInt_small w h, show (0#32 : BitVec 32).toInt = 0 from rfl]; omega)
/-- A row number is at most the last row's. -/
theorem sle_one (w : BitVec 32) (h : w.toNat < 1000000) : IntOp.cmpi .sle w 999999#32 = 1#1 :=
  ofBool_true _ (by
    show w.sle 999999#32 = true
    rw [BitVec.sle_eq_decide, decide_eq_true_eq, toInt_small w h, show (999999#32 : BitVec 32).toInt = 999999 from rfl]; omega)

/-! ## The lookups -/

/-- A selection where the condition holds is its first operand. -/
theorem select_one {s : Shape} {α : Type} (c : IVec s 1) (a b : s.Idx → α) (i : s.Idx) (h : c i = 1#1) : select c a b i = a i := if_pos h

section Take

variable {F : FTy → Type} [FloatOps F] (u : IVec S16384 32) (E : FVec F S1000000x32 .f32)

/-- The row numbers, a negative one counted from the end. -/
def wrapped : IVec S16384 32 :=
  select (cmpi .slt u (broadcastInDim S16384 ![] bcast_S_S16384 (constantI S_ 32 0#32))) (addi u (broadcastInDim S16384 ![] bcast_S_S16384 (constantI S_ 32 1000000#32))) u
/-- The same as a column. -/
def column : IVec S16384x1 32 := broadcastInDim S16384x1 ![0] bcast_S16384_S16384x1_0 (wrapped u)
/-- Which of them name a row. -/
def valid : IVec S16384x1 1 :=
  andi (cmpi .sge (column u) (broadcastInDim S16384x1 ![] bcast_S_S16384x1 (constantI S_ 32 0#32)))
    (cmpi .sle (column u) (broadcastInDim S16384x1 ![0, 1] bcast_S1x1_S16384x1_0_1 (broadcastInDim S1x1 ![1] bcast_S1_S1x1_1 (constantI S1 32 999999#32))))
/-- The lookup: the rows named, a fill where a number names none. -/
def lookup : FVec F S16384x32 .f32 :=
  select (broadcastInDim S16384x32 ![0] bcast_S16384_S16384x32_0 (Host.reduce IntOp.andi (valid u) (constantI S_ 1 1#1) reducesTo_S16384x1_S16384_d1 h_S_))
    (Host.gather gather_S1000000x32_S16384x1_S16384x32_1_0_n_n_0_1_132 E (column u))
    (broadcastInDim S16384x32 ![] bcast_S_S16384x32 (constant S_ .f32 0x7FC00000#32))

variable (hu : InRange u)
include hu

/-- Row numbers in range are not wrapped. -/
theorem wrapped_eq : wrapped u = u := by
  funext p
  exact if_neg (not_slt (u p) (hu p))

/-- The column at `p` is `p`'s row number. -/
theorem column_apply (p : Fin 16384) (z : Fin 1) : column u (ix2 p z) = u (ix1 p) := by
  unfold column
  rw [wrapped_eq u hu]
  refine broadcastInDim_apply _ _ u (ix2 p z) (ix1 p) fun a => ?_
  match a with
  | ⟨0, _⟩ => exact (if_neg (show ¬ (16384 = 1) by decide)).symm

/-- Every entry of the column names a row. -/
theorem column_lt (i : S16384x1.Idx) : (column u i).toNat < 1000000 := by
  have e : i = ix2 (⟨(i 0).val, (i 0).isLt⟩ : Fin 16384) (⟨(i 1).val, (i 1).isLt⟩ : Fin 1) := by
    funext a; apply Fin.ext
    match a with
    | ⟨0, _⟩ => rfl
    | ⟨1, _⟩ => rfl
  rw [e, column_apply u hu]
  exact hu _

/-- Every entry of the column is valid. -/
theorem valid_one (i : S16384x1.Idx) : valid u i = 1#1 :=
  IntOp.andi_eq_one.2 ⟨sge_one _ (column_lt u hu i), sle_one _ (column_lt u hu i)⟩

/-- For row numbers in range the lookup at `(p, k)` is entry `k` of the row that `p`'s number names. -/
theorem lookup_apply (p : Fin 16384) (k : Fin 32) : lookup u E (ix2 p k) = E (entry (u (ix1 p)).toNat k.val) := by
  have hlt := hu (ix1 p)
  have hm : (broadcastInDim S16384x32 ![0] bcast_S16384_S16384x32_0
      (Host.reduce IntOp.andi (valid u) (constantI S_ 1 1#1) reducesTo_S16384x1_S16384_d1 h_S_) : S16384x32.Idx → BitVec 1) (ix2 p k) = 1#1 :=
    Host.reduce_andi_one (valid u) (constantI S_ 1 1#1) reducesTo_S16384x1_S16384_d1 h_S_ _ rfl (valid_one u hu)
  refine (select_one _ _ _ _ hm).trans ?_
  refine (Routing.gather_row gather_S1000000x32_S16384x1_S16384x32_1_0_n_n_0_1_132 rfl rfl rfl rfl rfl E (column u) p k
    (⟨(u (ix1 p)).toNat, hlt⟩ : Fin 1000000) ?_ (by decide)).trans (congrArg E ?_)
  · rw [column_apply u hu]
    exact BitVec.eq_of_toNat_eq ((BitVec.toNat_ofNat ..).trans (Nat.mod_eq_of_lt (u (ix1 p)).isLt)).symm
  · funext a; apply Fin.ext
    match a with
    | ⟨0, _⟩ => exact (Nat.mod_eq_of_lt hlt).symm
    | ⟨1, _⟩ => exact (Nat.mod_eq_of_lt k.isLt).symm

end Take

/-! ## The sum and the sigmoid -/

/-- The running sum over the extended reals is the sum. -/
theorem run_eq_sum (x y : ℕ → EReal) (n : ℕ) : run (F := Ideal) x y n = ∑ k ∈ Finset.range n, x k * y k := by
  induction n with
  | zero => exact Ideal.ofBits_zero_f32
  | succ n ih =>
    rw [Finset.sum_range_succ, ← ih]; rfl

/-- The host's sigmoid, spelt by a negation, an exponential, a sum and a quotient, at an index. -/
theorem sigmoid_apply {s : Shape} (one x : FVec Ideal s .f32) (p : s.Idx) :
    Host.divf one (addf one (Host.exp (Host.negf x))) p = Ideal.div (one p) (one p + Ideal.exp (-(x p))) := rfl

/-- The kernel's sigmoid over the extended reals. -/
theorem sigm_eq (a : EReal) :
    sigm (F := Ideal) a = Ideal.div (Ideal.ofBits .f32 0x3F800000#32) (Ideal.ofBits .f32 0x3F800000#32 + Ideal.exp (-a)) := by
  show Ideal.div (Ideal.ofBits .f32 0x3F800000#32) (Ideal.ofBits .f32 0x3F800000#32 + Ideal.exp (Ideal.ofBits .f32 0x00000000#32 - a)) = _
  rw [Ideal.ofBits_zero_f32, zero_sub]

/-- The reference's result as a function of its four arguments. -/
def value {F : FTy → Type} [FloatOps F] (u i : IVec S16384 32) (E G : FVec F S1000000x32 .f32) : FVec F S16384 .f32 :=
  Host.divf (broadcastInDim S16384 ![] bcast_S_S16384 (constant S_ .f32 0x3F800000#32))
    (addf (broadcastInDim S16384 ![] bcast_S_S16384 (constant S_ .f32 0x3F800000#32))
      (Host.exp (Host.negf (Host.reduceAdd (mulf (lookup u E) (lookup i G)) (constant S_ .f32 0x00000000#32) reducesTo_S16384x32_S16384_d1 h_S_))))

/-- Over the extended reals, from row numbers in range, the reference's result is the kernel's. -/
theorem value_eq (u i : IVec S16384 32) (E G : FVec Ideal S1000000x32 .f32) (hu : InRange u) (hi : InRange i) :
    value (F := Ideal) u i E G = out (F := Ideal) u i E G := by
  funext p
  obtain ⟨p, rfl⟩ : ∃ q : Fin 16384, p = ix1 q := ⟨⟨(p 0).val, (p 0).isLt⟩, by
    funext a; apply Fin.ext
    match a with
    | ⟨0, _⟩ => rfl⟩
  have hsum : Host.reduceAdd (mulf (lookup u E) (lookup i G)) (constant S_ .f32 0x00000000#32) reducesTo_S16384x32_S16384_d1 h_S_ (ix1 p)
      = run (F := Ideal) (fun k => E (entry (u (ix1 p)).toNat k)) (fun k => G (entry (i (ix1 p)).toNat k)) 32 := by
    have h : S16384x32.Reduces [1] S16384 := by decide
    rw [hostReduceAdd_apply, Ideal.hostReduceAdd_single _ h, run_eq_sum, Finset.sum_range]
    refine (congrArg₂ (· + ·) Ideal.ofBits_zero_f32 (Finset.sum_congr rfl fun k _ => ?_)).trans (zero_add _)
    have e : h.lift (ix1 p) k = ix2 p (⟨k.val, k.isLt⟩ : Fin 32) := by
      funext c; apply Fin.ext
      match c with
      | ⟨0, _⟩ => rfl
      | ⟨1, _⟩ => rfl
    rw [e]
    exact congrArg₂ (· * ·) (lookup_apply u E hu p _) (lookup_apply i G hi p _)
  unfold value out
  rw [sigmoid_apply, hsum, sigm_eq, broadcastInDim_scalar_apply]
  rfl

end Cert.Proof.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.RefValue
public import Idealize.ShloMosaic.Lib.Quiescent

@[expose] public section

noncomputable section

namespace Cert.Proof

open Idealize.ShloMosaic Idealize.SL.Sem

/-- The precondition, over any float values, puts every row number in range. -/
theorem preOK {F : FTy → Type} [FloatOps F] (m : (ℓ : Loc Cert.KernelIdeal.nD Cert.KernelIdeal.τ Cert.KernelIdeal.sig) → Buf (Elt F) ℓ)
    (h : ∀ d : Dev Cert.KernelIdeal.nD, Cert.Pre_in_range.fn (F := F) (m (Tiles.uLoc d)) (m (Tiles.iLoc d)) (m (Tiles.eLoc d)) (m (Tiles.gLoc d)) = fun _ => 1#1) :
    Tiles.PreOK m :=
  fun d => Spec.inRange_of_pre _ _ _ _ (h d)

/-- The printed program runs, leaves its arguments as they were and every semaphore at zero. -/
theorem frame_kernel : Cert.quiescent_Kernel := fun m ρ h =>
  (θ_run Cert.KernelIdeal.defs _ _).mono (fun _ h => ⟨fun c => (h.1 c).2, h.2⟩) (Tiles.run_main (F := Bits) m ρ (preOK m h))

/-- So does its idealization. -/
theorem frame_kernelIdeal : Cert.quiescent_KernelIdeal := fun m ρ h =>
  (θ_run Cert.KernelIdeal.defs _ _).mono (fun _ h => ⟨fun c => (h.1 c).2, h.2⟩) (Tiles.run_main (F := Ideal) m ρ (preOK m h))

/-- The reference runs, leaves its arguments as they were and every semaphore at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same from row numbers in range. -/
theorem frame_reference_pre : Cert.quiescent_ReferenceIdeal_pre_in_range := fun m ρ _ => frame_reference m ρ trivial

/-- From equal arguments with row numbers in range, the idealized program and the reference end with the same result. -/
theorem algebraic : Cert.algebraic_KernelIdeal_ReferenceIdeal := fun m ρ m' ρ' hpre hargs => by
  have hok := preOK m hpre
  refine ⟨fun c => Tiles.OUT m c, ?_, ?_⟩
  · exact (θ_run Cert.KernelIdeal.defs _ _).mono (fun _ h c => h.1 c) (Tiles.run_main (F := Ideal) m ρ hok)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hargs c
    rw [h0, h1, h2, h3]
    exact RefValue.value_eq (m (Tiles.uLoc c)) (m (Tiles.iLoc c)) (m (Tiles.eLoc c)) (m (Tiles.gLoc c)) (hok c).1 (hok c).2

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
